-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_are_classes [hPre_labels_are_classes : Cert.Pre_labels_are_classes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_are_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_are_classes [hPre_labels_are_classes : Cert.Pre_labels_are_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_are_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_are_classes [hKernelIdeal : Cert.KernelIdeal.Facts] [hPre_labels_are_classes : Cert.Pre_labels_are_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_are_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_are_classes [hReferenceIdeal : Cert.ReferenceIdeal.Facts] [hPre_labels_are_classes : Cert.Pre_labels_are_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_are_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "cdf_scale" .f32 0x40624630#32 (((5 / 2) * (Real.sqrt 2) : ℝ) : EReal)
  ∧ IdealRules.named_const.Statement Cert.KernelIdeal.κ "icdf_scale" .f32 0x3ED93924#32 (((5033165 / 16777216) * (Real.sqrt 2) : ℝ) : EReal)
  ∧ IdealRules.named_const.Statement Cert.KernelIdeal.κ "neg_inf" .f32 0xFF61B1E6#32 ⊥

def algebraic_KernelIdeal_ReferenceIdeal_pre_labels_are_classes [hKernelIdeal : Cert.KernelIdeal.Facts] [hReferenceIdeal : Cert.ReferenceIdeal.Facts] [hPre_labels_are_classes : Cert.Pre_labels_are_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_are_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_are_classes : Cert.Pre_labels_are_classes.Facts),
    quiescent_Kernel (hKernel := hKernel)
    ∧ quiescent_KernelIdeal (hKernelIdeal := hKernelIdeal)
    ∧ quiescent_KernelIdeal_pre_labels_are_classes (hKernelIdeal := hKernelIdeal) (hPre_labels_are_classes := hPre_labels_are_classes)
    ∧ quiescent_ReferenceIdeal (hReferenceIdeal := hReferenceIdeal)
    ∧ quiescent_ReferenceIdeal_pre_labels_are_classes (hReferenceIdeal := hReferenceIdeal) (hPre_labels_are_classes := hPre_labels_are_classes)
    ∧ preserves_Kernel_KernelIdeal
    ∧ algebraic_KernelIdeal_ReferenceIdeal_pre_labels_are_classes (hKernelIdeal := hKernelIdeal) (hReferenceIdeal := hReferenceIdeal) (hPre_labels_are_classes := hPre_labels_are_classes)
-- ==== Pre_labels_are_classes.lean ====
abbrev S8x900x92 : Shape := ⟨3, ![8, 900, 92]⟩
abbrev S8x900x4 : Shape := ⟨3, ![8, 900, 4]⟩
abbrev S200 : Shape := ⟨1, ![200]⟩
abbrev S200x4 : Shape := ⟨2, ![200, 4]⟩
abbrev S_ : Shape := ⟨0, ![]⟩

class Facts : Prop where
  bcast_S_S200 : S_.BroadcastsInDim S200 (![] : Fin 0 → Fin S200.rank)
  reducesTo_S200_S_d0 : S200.ReducesTo [0] S_
  h_S_ : 0 < S_.numel

variable [Facts]

def fn {F : FTy → Type} [FloatOps F] (main_arg0 : FVec F S8x900x92 .f32) (main_arg1 : FVec F S8x900x4 .f32) (main_arg2 : IVec S200 32) (main_arg3 : FVec F S200x4 .f32) : IVec S_ 1 :=
  let main_c : IVec S_ 32 := constantI S_ 32 0#32
  let main_v0 : IVec S200 32 := broadcastInDim S200 ![] bcast_S_S200 main_c
  let main_v1 : IVec S200 1 := cmpi .sge main_arg2 main_v0
  let main_c_0 : IVec S_ 32 := constantI S_ 32 92#32
  let main_v2 : IVec S200 32 := broadcastInDim S200 ![] bcast_S_S200 main_c_0
  let main_v3 : IVec S200 1 := cmpi .slt main_arg2 main_v2
  let main_v4 : IVec S200 1 := andi main_v1 main_v3
  let main_c_1 : IVec S_ 1 := constantI S_ 1 1#1
  let main_v5 : IVec S_ 1 := (fun x v => Host.reduce IntOp.andi x v reducesTo_S200_S_d0 h_S_) main_v4 main_c_1
  main_v5
-- ==== Kernel.lean ====
abbrev S8x900x92 : Shape := ⟨3, ![8, 900, 92]⟩
abbrev S8x900x4 : Shape := ⟨3, ![8, 900, 4]⟩
abbrev S200 : Shape := ⟨1, ![200]⟩
abbrev S200x4 : Shape := ⟨2, ![200, 4]⟩
abbrev S8x4x900 : Shape := ⟨3, ![8, 4, 900]⟩
abbrev S8x25x4 : Shape := ⟨3, ![8, 25, 4]⟩
abbrev S_ : Shape := ⟨0, ![]⟩
abbrev S8x32x4 : Shape := ⟨3, ![8, 32, 4]⟩
abbrev S8x25 : Shape := ⟨2, ![8, 25]⟩
abbrev S8x32 : Shape := ⟨2, ![8, 32]⟩
abbrev S8x32x1 : Shape := ⟨3, ![8, 32, 1]⟩
abbrev S256x900 : Shape := ⟨2, ![256, 900]⟩
abbrev S200x1 : Shape := ⟨2, ![200, 1]⟩
abbrev S200x900 : Shape := ⟨2, ![200, 900]⟩
abbrev S900x200 : Shape := ⟨2, ![900, 200]⟩
abbrev S1x900x92 : Shape := ⟨3, ![1, 900, 92]⟩
abbrev S900x92 : Shape := ⟨2, ![900, 92]⟩
abbrev S900 : Shape := ⟨1, ![900]⟩
abbrev S900x1 : Shape := ⟨2, ![900, 1]⟩
abbrev S1x32x1 : Shape := ⟨3, ![1, 32, 1]⟩
abbrev S32x1 : Shape := ⟨2, ![32, 1]⟩
abbrev S32x92 : Shape := ⟨2, ![32, 92]⟩
abbrev S32x900 : Shape := ⟨2, ![32, 900]⟩
abbrev S1x4x900 : Shape := ⟨3, ![1, 4, 900]⟩
abbrev S4x900 : Shape := ⟨2, ![4, 900]⟩
abbrev S1x900 : Shape := ⟨2, ![1, 900]⟩
abbrev S1x32x4 : Shape := ⟨3, ![1, 32, 4]⟩
abbrev S32x4 : Shape := ⟨2, ![32, 4]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 28
  | .vmem => 6
  | .smem => 0
  | _ => 0

abbrev bufTy : (tb : Table) → Fin (tcTables nBuf tb) → BufTy
  | .hbm, ⟨0, _⟩ => ⟨S8x900x92, .f32⟩
  | .hbm, ⟨1, _⟩ => ⟨S8x900x4, .f32⟩
  | .hbm, ⟨2, _⟩ => ⟨S200, .i32⟩
  | .hbm, ⟨3, _⟩ => ⟨S200x4, .f32⟩
  | .hbm, ⟨4, _⟩ => ⟨S200, .i32⟩
  | .hbm, ⟨5, _⟩ => ⟨S200, .i1⟩
  | .hbm, ⟨6, _⟩ => ⟨S8x4x900, .f32⟩
  | .hbm, ⟨7, _⟩ => ⟨S8x25x4, .f32⟩
  | .hbm, ⟨8, _⟩ => ⟨S_, .i32⟩
  | .hbm, ⟨9, _⟩ => ⟨S_, .f32⟩
  | .hbm, ⟨10, _⟩ => ⟨S8x32x4, .f32⟩
  | .hbm, ⟨11, _⟩ => ⟨S8x25, .i32⟩
  | .hbm, ⟨12, _⟩ => ⟨S_, .i32⟩
  | .hbm, ⟨13, _⟩ => ⟨S_, .i32⟩
  | .hbm, ⟨14, _⟩ => ⟨S8x32, .i32⟩
  | .hbm, ⟨15, _⟩ => ⟨S8x32x1, .i32⟩
  | .hbm, ⟨16, _⟩ => ⟨S256x900, .i8⟩
  | .hbm, ⟨17, _⟩ => ⟨S_, .i32⟩
  | .hbm, ⟨18, _⟩ => ⟨S200, .i32⟩
  | .hbm, ⟨19, _⟩ => ⟨S200, .i32⟩
  | .hbm, ⟨20, _⟩ => ⟨S200, .i32⟩
  | .hbm, ⟨21, _⟩ => ⟨S200x1, .i32⟩
  | .hbm, ⟨22, _⟩ => ⟨S200x900, .i8⟩
  | .hbm, ⟨23, _⟩ => ⟨S900x200, .i8⟩
  | .hbm, ⟨24, _⟩ => ⟨S_, .i8⟩
  | .hbm, ⟨25, _⟩ => ⟨S900x200, .i8⟩
  | .hbm, ⟨26, _⟩ => ⟨S900x200, .i1⟩
  | .hbm, ⟨27, _⟩ => ⟨S900x200, .i1⟩
  | .local _ .vmem, ⟨0, _⟩ => ⟨S8x900x92, .f32⟩
  | .local _ .vmem, ⟨1, _⟩ => ⟨S8x4x900, .f32⟩
  | .local _ .vmem, ⟨2, _⟩ => ⟨S8x32x4, .f32⟩
  | .local _ .vmem, ⟨3, _⟩ => ⟨S8x32x1, .i32⟩
  | .local _ .vmem, ⟨4, _⟩ => ⟨S256x900, .i8⟩
  | .local _ .vmem, ⟨5, _⟩ => ⟨S256x900, .f32⟩
  | _, _ => ⟨S8x900x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_c_1 : Ref sig .tc := ⟨.hbm, 8, rfl⟩
abbrev main_call0_call0_v0 : Ref sig .tc := ⟨.hbm, 9, rfl⟩
abbrev main_call0_v2 : Ref sig .tc := ⟨.hbm, 10, rfl⟩
abbrev main_call0_v3 : Ref sig .tc := ⟨.hbm, 11, rfl⟩
abbrev main_call0_c_2 : Ref sig .tc := ⟨.hbm, 12, rfl⟩
abbrev main_call0_call1_v0 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_3 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_4 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_507 : BitVec 32 := 0#32
  let c200_i32 : BitVec 32 := 200#32
  let v1764 : BitVec 32 := Scalar.addi c0_i32_507 c200_i32
  let c1_i32_508 : BitVec 32 := 1#32
  ⟨c0_i32_507, v1764, c1_i32_508⟩
abbrev stage0_0 : Fin 1 → Memref sig .tc .vmem S8x900x92 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x900 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x900 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "cdf_scale" => some (((5 / 2) * (Real.sqrt 2) : ℝ) : EReal)
  | "icdf_scale" => some (((5033165 / 16777216) * (Real.sqrt 2) : ℝ) : EReal)
  | "neg_inf" => some ⊥
  | _ => none
-- ==== ReferenceIdeal.lean ====
abbrev S8x900x92 : Shape := ⟨3, ![8, 900, 92]⟩
abbrev S8x900x4 : Shape := ⟨3, ![8, 900, 4]⟩
abbrev S200 : Shape := ⟨1, ![200]⟩
abbrev S200x4 : Shape := ⟨2, ![200, 4]⟩
abbrev S7200x92 : Shape := ⟨2, ![7200, 92]⟩
abbrev S_ : Shape := ⟨0, ![]⟩
abbrev S7200 : Shape := ⟨1, ![7200]⟩
abbrev S7200x1 : Shape := ⟨2, ![7200, 1]⟩
abbrev S7200x4 : Shape := ⟨2, ![7200, 4]⟩
abbrev S200x1 : Shape := ⟨2, ![200, 1]⟩
abbrev S7200x200 : Shape := ⟨2, ![7200, 200]⟩
abbrev S7200x1x4 : Shape := ⟨3, ![7200, 1, 4]⟩
abbrev S1x200x4 : Shape := ⟨3, ![1, 200, 4]⟩
abbrev S7200x200x4 : Shape := ⟨3, ![7200, 200, 4]⟩
abbrev S7200x2 : Shape := ⟨2, ![7200, 2]⟩
abbrev S7200x1x2 : Shape := ⟨3, ![7200, 1, 2]⟩
abbrev S200x2 : Shape := ⟨2, ![200, 2]⟩
abbrev S1x200x2 : Shape := ⟨3, ![1, 200, 2]⟩
abbrev S7200x200x2 : Shape := ⟨3, ![7200, 200, 2]⟩
abbrev S7200x200x1 : Shape := ⟨3, ![7200, 200, 1]⟩
abbrev S1x200 : Shape := ⟨2, ![1, 200]⟩
abbrev S8x900x200 : Shape := ⟨3, ![8, 900, 200]⟩
abbrev S8x200x900 : Shape := ⟨3, ![8, 200, 900]⟩
abbrev S8 : Shape := ⟨1, ![8]⟩
abbrev S8x25 : Shape := ⟨2, ![8, 25]⟩
abbrev S200x900 : Shape := ⟨2, ![200, 900]⟩
abbrev S8x8 : Shape := ⟨2, ![8, 8]⟩
abbrev S8x25x8 : Shape := ⟨3, ![8, 25, 8]⟩
abbrev S200x8 : Shape := ⟨2, ![200, 8]⟩
abbrev S200x8x25 : Shape := ⟨3, ![200, 8, 25]⟩
abbrev S200x200 : Shape := ⟨2, ![200, 200]⟩
abbrev S900x200 : Shape := ⟨2, ![900, 200]⟩
abbrev S900x1 : Shape := ⟨2, ![900, 1]⟩
abbrev S900 : Shape := ⟨1, ![900]⟩
abbrev S1 : Shape := ⟨1, ![1]⟩
abbrev S2 : Shape := ⟨1, ![2]⟩

abbrev nBuf : Space → Nat
  | .hbm => 475
  | .vmem => 0
  | .smem => 0
  | _ => 0

abbrev hbmTy0_0 (i : Nat) : BufTy := match i % 128 with
  | 0 => ⟨S8x900x92, .f32⟩
  | 1 => ⟨S8x900x4, .f32⟩
  | 2 => ⟨S200, .i32⟩
  | 3 => ⟨S200x4, .f32⟩
  | 4 => ⟨S7200x92, .f32⟩
  | 5 => ⟨S_, .f32⟩
  | 6 => ⟨S7200, .f32⟩
  | 7 => ⟨S_, .f32⟩
  | 8 => ⟨S7200, .f32⟩
  | 9 => ⟨S7200, .f32⟩
  | 10 => ⟨S7200x1, .f32⟩
  | 11 => ⟨S7200x92, .f32⟩
  | 12 => ⟨S7200x92, .f32⟩
  | 13 => ⟨S7200x92, .f32⟩
  | 14 => ⟨S_, .f32⟩
  | 15 => ⟨S7200, .f32⟩
  | 16 => ⟨S7200x1, .f32⟩
  | 17 => ⟨S7200x92, .f32⟩
  | 18 => ⟨S7200x92, .f32⟩
  | 19 => ⟨S7200x4, .f32⟩
  | 20 => ⟨S_, .i32⟩
  | 21 => ⟨S200, .i32⟩
  | 22 => ⟨S200, .i1⟩
  | 23 => ⟨S_, .i32⟩
  | 24 => ⟨S200, .i32⟩
  | 25 => ⟨S200, .i32⟩
  | 26 => ⟨S200, .i32⟩
  | 27 => ⟨S200x1, .i32⟩
  | 28 => ⟨S7200x200, .f32⟩
  | 29 => ⟨S7200x200, .f32⟩
  | 30 => ⟨S7200x1x4, .f32⟩
  | 31 => ⟨S1x200x4, .f32⟩
  | 32 => ⟨S7200x200x4, .f32⟩
  | 33 => ⟨S7200x200x4, .f32⟩
  | 34 => ⟨S7200x200x4, .f32⟩
  | 35 => ⟨S7200x200x4, .f32⟩
  | 36 => ⟨S_, .f32⟩
  | 37 => ⟨S7200x200, .f32⟩
  | 38 => ⟨S7200x1, .f32⟩
  | 39 => ⟨S7200, .f32⟩
  | 40 => ⟨S7200x1, .f32⟩
  | 41 => ⟨S7200, .f32⟩
  | 42 => ⟨S7200x1, .f32⟩
  | 43 => ⟨S7200, .f32⟩
  | 44 => ⟨S7200x1, .f32⟩
  | 45 => ⟨S7200, .f32⟩
  | 46 => ⟨S_, .f32⟩
  | 47 => ⟨S7200, .f32⟩
  | 48 => ⟨S7200, .f32⟩
  | 49 => ⟨S7200, .f32⟩
  | 50 => ⟨S_, .f32⟩
  | 51 => ⟨S7200, .f32⟩
  | 52 => ⟨S7200, .f32⟩
  | 53 => ⟨S7200, .f32⟩
  | 54 => ⟨S_, .f32⟩
  | 55 => ⟨S7200, .f32⟩
  | 56 => ⟨S7200, .f32⟩
  | 57 => ⟨S7200, .f32⟩
  | 58 => ⟨S_, .f32⟩
  | 59 => ⟨S7200, .f32⟩
  | 60 => ⟨S7200, .f32⟩
  | 61 => ⟨S7200, .f32⟩
  | 62 => ⟨S7200x1, .f32⟩
  | 63 => ⟨S7200x1, .f32⟩
  | 64 => ⟨S7200x1, .f32⟩
  | 65 => ⟨S7200x1, .f32⟩
  | 66 => ⟨S7200x4, .f32⟩
  | 67 => ⟨S200x1, .f32⟩
  | 68 => ⟨S200, .f32⟩
  | 69 => ⟨S200x1, .f32⟩
  | 70 => ⟨S200, .f32⟩
  | 71 => ⟨S200x1, .f32⟩
  | 72 => ⟨S200, .f32⟩
  | 73 => ⟨S200x1, .f32⟩
  | 74 => ⟨S200, .f32⟩
  | 75 => ⟨S_, .f32⟩
  | 76 => ⟨S200, .f32⟩
  | 77 => ⟨S200, .f32⟩
  | 78 => ⟨S200, .f32⟩
  | 79 => ⟨S_, .f32⟩
  | 80 => ⟨S200, .f32⟩
  | 81 => ⟨S200, .f32⟩
  | 82 => ⟨S200, .f32⟩
  | 83 => ⟨S_, .f32⟩
  | 84 => ⟨S200, .f32⟩
  | 85 => ⟨S200, .f32⟩
  | 86 => ⟨S200, .f32⟩
  | 87 => ⟨S_, .f32⟩
  | 88 => ⟨S200, .f32⟩
  | 89 => ⟨S200, .f32⟩
  | 90 => ⟨S200, .f32⟩
  | 91 => ⟨S200x1, .f32⟩
  | 92 => ⟨S200x1, .f32⟩
  | 93 => ⟨S200x1, .f32⟩
  | 94 => ⟨S200x1, .f32⟩
  | 95 => ⟨S200x4, .f32⟩
  | 96 => ⟨S7200x1, .f32⟩
  | 97 => ⟨S7200, .f32⟩
  | 98 => ⟨S7200x1, .f32⟩
  | 99 => ⟨S7200, .f32⟩
  | 100 => ⟨S7200, .f32⟩
  | 101 => ⟨S7200x1, .f32⟩
  | 102 => ⟨S7200, .f32⟩
  | 103 => ⟨S7200x1, .f32⟩
  | 104 => ⟨S7200, .f32⟩
  | 105 => ⟨S7200, .f32⟩
  | 106 => ⟨S7200, .f32⟩
  | 107 => ⟨S200x1, .f32⟩
  | 108 => ⟨S200, .f32⟩
  | 109 => ⟨S200x1, .f32⟩
  | 110 => ⟨S200, .f32⟩
  | 111 => ⟨S200, .f32⟩
  | 112 => ⟨S200x1, .f32⟩
  | 113 => ⟨S200, .f32⟩
  | 114 => ⟨S200x1, .f32⟩
  | 115 => ⟨S200, .f32⟩
  | 116 => ⟨S200, .f32⟩
  | 117 => ⟨S200, .f32⟩
  | 118 => ⟨S7200x2, .f32⟩
  | 119 => ⟨S7200x1x2, .f32⟩
  | 120 => ⟨S200x2, .f32⟩
  | 121 => ⟨S1x200x2, .f32⟩
  | 122 => ⟨S7200x200x2, .f32⟩
  | 123 => ⟨S7200x200x2, .f32⟩
  | 124 => ⟨S7200x200x2, .f32⟩
  | 125 => ⟨S7200x2, .f32⟩
  | 126 => ⟨S7200x1x2, .f32⟩
  | 127 => ⟨S200x2, .f32⟩
  | _ => ⟨S8x900x92, .f32⟩

abbrev hbmTy0_1 (i : Nat) : BufTy := match i % 128 with
  | 0 => ⟨S1x200x2, .f32⟩
  | 1 => ⟨S7200x200x2, .f32⟩
  | 2 => ⟨S7200x200x2, .f32⟩
  | 3 => ⟨S7200x200x2, .f32⟩
  | 4 => ⟨S7200x200x2, .f32⟩
  | 5 => ⟨S_, .f32⟩
  | 6 => ⟨S_, .f32⟩
  | 7 => ⟨S7200x200x2, .f32⟩
  | 8 => ⟨S7200x200x2, .f32⟩
  | 9 => ⟨S7200x200x1, .f32⟩
  | 10 => ⟨S7200x200, .f32⟩
  | 11 => ⟨S7200x200x1, .f32⟩
  | 12 => ⟨S7200x200, .f32⟩
  | 13 => ⟨S7200x200, .f32⟩
  | 14 => ⟨S7200x1, .f32⟩
  | 15 => ⟨S1x200, .f32⟩
  | 16 => ⟨S7200x200, .f32⟩
  | 17 => ⟨S7200x200, .f32⟩
  | 18 => ⟨S7200x200, .f32⟩
  | 19 => ⟨S7200x200, .f32⟩
  | 20 => ⟨S7200x200, .f32⟩
  | 21 => ⟨S7200x2, .f32⟩
  | 22 => ⟨S7200x1x2, .f32⟩
  | 23 => ⟨S200x2, .f32⟩
  | 24 => ⟨S1x200x2, .f32⟩
  | 25 => ⟨S7200x200x2, .f32⟩
  | 26 => ⟨S7200x200x2, .f32⟩
  | 27 => ⟨S7200x200x2, .f32⟩
  | 28 => ⟨S7200x2, .f32⟩
  | 29 => ⟨S7200x1x2, .f32⟩
  | 30 => ⟨S200x2, .f32⟩
  | 31 => ⟨S1x200x2, .f32⟩
  | 32 => ⟨S7200x200x2, .f32⟩
  | 33 => ⟨S7200x200x2, .f32⟩
  | 34 => ⟨S7200x200x2, .f32⟩
  | 35 => ⟨S7200x200x2, .f32⟩
  | 36 => ⟨S_, .f32⟩
  | 37 => ⟨S_, .f32⟩
  | 38 => ⟨S7200x200x2, .f32⟩
  | 39 => ⟨S7200x200x2, .f32⟩
  | 40 => ⟨S7200x200x1, .f32⟩
  | 41 => ⟨S7200x200, .f32⟩
  | 42 => ⟨S7200x200x1, .f32⟩
  | 43 => ⟨S7200x200, .f32⟩
  | 44 => ⟨S7200x200, .f32⟩
  | 45 => ⟨S7200x200, .f32⟩
  | 46 => ⟨S7200x200, .f32⟩
  | 47 => ⟨S7200x200, .f32⟩
  | 48 => ⟨S7200x200, .f32⟩
  | 49 => ⟨S_, .f32⟩
  | 50 => ⟨S7200x200, .f32⟩
  | 51 => ⟨S7200x200, .f32⟩
  | 52 => ⟨S_, .f32⟩
  | 53 => ⟨S7200x200, .f32⟩
  | 54 => ⟨S7200x200, .f32⟩
  | 55 => ⟨S7200x200, .f32⟩
  | 56 => ⟨S_, .f32⟩
  | 57 => ⟨S7200x200, .f32⟩
  | 58 => ⟨S7200x200, .f32⟩
  | 59 => ⟨S7200x200, .f32⟩
  | 60 => ⟨S8x900x200, .f32⟩
  | 61 => ⟨S8x900x200, .f32⟩
  | 62 => ⟨S_, .f32⟩
  | 63 => ⟨S8x900x200, .f32⟩
  | 64 => ⟨S8x900x200, .f32⟩
  | 65 => ⟨S_, .f32⟩
  | 66 => ⟨S_, .f32⟩
  | 67 => ⟨S_, .f32⟩
  | 68 => ⟨S_, .f32⟩
  | 69 => ⟨S_, .f32⟩
  | 70 => ⟨S8x900x200, .f32⟩
  | 71 => ⟨S8x900x200, .f32⟩
  | 72 => ⟨S8x900x200, .f32⟩
  | 73 => ⟨S_, .f32⟩
  | 74 => ⟨S8x900x200, .f32⟩
  | 75 => ⟨S8x900x200, .f32⟩
  | 76 => ⟨S_, .f32⟩
  | 77 => ⟨S8x900x200, .f32⟩
  | 78 => ⟨S8x900x200, .f32⟩
  | 79 => ⟨S_, .f32⟩
  | 80 => ⟨S_, .f32⟩
  | 81 => ⟨S_, .f32⟩
  | 82 => ⟨S_, .f32⟩
  | 83 => ⟨S8x900x200, .f32⟩
  | 84 => ⟨S8x900x200, .f32⟩
  | 85 => ⟨S8x900x200, .f32⟩
  | 86 => ⟨S8x900x200, .f32⟩
  | 87 => ⟨S_, .f32⟩
  | 88 => ⟨S8x900x200, .f32⟩
  | 89 => ⟨S8x900x200, .i1⟩
  | 90 => ⟨S_, .f32⟩
  | 91 => ⟨S8x900x200, .f32⟩
  | 92 => ⟨S8x900x200, .f32⟩
  | 93 => ⟨S8x900x200, .f32⟩
  | 94 => ⟨S_, .f32⟩
  | 95 => ⟨S8x900x200, .f32⟩
  | 96 => ⟨S8x900x200, .f32⟩
  | 97 => ⟨S8x900x200, .f32⟩
  | 98 => ⟨S_, .f32⟩
  | 99 => ⟨S_, .f32⟩
  | 100 => ⟨S8x900x200, .f32⟩
  | 101 => ⟨S8x900x200, .f32⟩
  | 102 => ⟨S8x900x200, .f32⟩
  | 103 => ⟨S_, .f32⟩
  | 104 => ⟨S_, .f32⟩
  | 105 => ⟨S8x900x200, .f32⟩
  | 106 => ⟨S8x900x200, .f32⟩
  | 107 => ⟨S8x900x200, .f32⟩
  | 108 => ⟨S8x900x200, .f32⟩
  | 109 => ⟨S8x900x200, .f32⟩
  | 110 => ⟨S8x900x200, .f32⟩
  | 111 => ⟨S8x900x200, .f32⟩
  | 112 => ⟨S_, .f32⟩
  | 113 => ⟨S_, .f32⟩
  | 114 => ⟨S8x900x200, .f32⟩
  | 115 => ⟨S8x900x200, .f32⟩
  | 116 => ⟨S8x900x200, .f32⟩
  | 117 => ⟨S8x900x200, .f32⟩
  | 118 => ⟨S8x900x200, .f32⟩
  | 119 => ⟨S8x900x200, .f32⟩
  | 120 => ⟨S_, .f32⟩
  | 121 => ⟨S_, .f32⟩
  | 122 => ⟨S8x900x200, .f32⟩
  | 123 => ⟨S8x900x200, .f32⟩
  | 124 => ⟨S8x900x200, .f32⟩
  | 125 => ⟨S8x900x200, .f32⟩
  | 126 => ⟨S8x900x200, .f32⟩
  | 127 => ⟨S8x900x200, .f32⟩
  | _ => ⟨S8x900x92, .f32⟩

abbrev hbmTy0_2 (i : Nat) : BufTy := match i % 128 with
  | 0 => ⟨S_, .f32⟩
  | 1 => ⟨S_, .f32⟩
  | 2 => ⟨S8x900x200, .f32⟩
  | 3 => ⟨S8x900x200, .f32⟩
  | 4 => ⟨S8x900x200, .f32⟩
  | 5 => ⟨S8x900x200, .f32⟩
  | 6 => ⟨S8x900x200, .f32⟩
  | 7 => ⟨S8x900x200, .f32⟩
  | 8 => ⟨S_, .f32⟩
  | 9 => ⟨S_, .f32⟩
  | 10 => ⟨S8x900x200, .f32⟩
  | 11 => ⟨S8x900x200, .f32⟩
  | 12 => ⟨S8x900x200, .f32⟩
  | 13 => ⟨S8x900x200, .f32⟩
  | 14 => ⟨S8x900x200, .f32⟩
  | 15 => ⟨S8x900x200, .f32⟩
  | 16 => ⟨S_, .f32⟩
  | 17 => ⟨S_, .f32⟩
  | 18 => ⟨S8x900x200, .f32⟩
  | 19 => ⟨S8x900x200, .f32⟩
  | 20 => ⟨S8x900x200, .f32⟩
  | 21 => ⟨S8x900x200, .f32⟩
  | 22 => ⟨S8x900x200, .f32⟩
  | 23 => ⟨S8x900x200, .f32⟩
  | 24 => ⟨S_, .f32⟩
  | 25 => ⟨S_, .f32⟩
  | 26 => ⟨S8x900x200, .f32⟩
  | 27 => ⟨S8x900x200, .f32⟩
  | 28 => ⟨S8x900x200, .f32⟩
  | 29 => ⟨S8x900x200, .f32⟩
  | 30 => ⟨S8x900x200, .f32⟩
  | 31 => ⟨S8x900x200, .f32⟩
  | 32 => ⟨S_, .f32⟩
  | 33 => ⟨S_, .f32⟩
  | 34 => ⟨S8x900x200, .f32⟩
  | 35 => ⟨S8x900x200, .f32⟩
  | 36 => ⟨S8x900x200, .f32⟩
  | 37 => ⟨S8x900x200, .f32⟩
  | 38 => ⟨S8x900x200, .f32⟩
  | 39 => ⟨S8x900x200, .f32⟩
  | 40 => ⟨S8x900x200, .f32⟩
  | 41 => ⟨S_, .f32⟩
  | 42 => ⟨S8x900x200, .f32⟩
  | 43 => ⟨S8x900x200, .i1⟩
  | 44 => ⟨S_, .f32⟩
  | 45 => ⟨S8x900x200, .f32⟩
  | 46 => ⟨S8x900x200, .f32⟩
  | 47 => ⟨S8x900x200, .f32⟩
  | 48 => ⟨S8x900x200, .f32⟩
  | 49 => ⟨S_, .f32⟩
  | 50 => ⟨S8x900x200, .f32⟩
  | 51 => ⟨S8x900x200, .f32⟩
  | 52 => ⟨S8x200x900, .f32⟩
  | 53 => ⟨S8, .i32⟩
  | 54 => ⟨S8x25, .i32⟩
  | 55 => ⟨S200, .i32⟩
  | 56 => ⟨S200, .i32⟩
  | 57 => ⟨S_, .i32⟩
  | 58 => ⟨S200, .i32⟩
  | 59 => ⟨S200, .i1⟩
  | 60 => ⟨S_, .i32⟩
  | 61 => ⟨S200, .i32⟩
  | 62 => ⟨S200, .i32⟩
  | 63 => ⟨S200, .i32⟩
  | 64 => ⟨S_, .i32⟩
  | 65 => ⟨S200, .i32⟩
  | 66 => ⟨S200, .i1⟩
  | 67 => ⟨S_, .i32⟩
  | 68 => ⟨S200, .i32⟩
  | 69 => ⟨S200, .i32⟩
  | 70 => ⟨S200, .i32⟩
  | 71 => ⟨S200x1, .i32⟩
  | 72 => ⟨S200x1, .i32⟩
  | 73 => ⟨S200x2, .i32⟩
  | 74 => ⟨S200x900, .f32⟩
  | 75 => ⟨S8x8, .i32⟩
  | 76 => ⟨S8x8, .i32⟩
  | 77 => ⟨S_, .i32⟩
  | 78 => ⟨S8x8, .i32⟩
  | 79 => ⟨S8x8, .i32⟩
  | 80 => ⟨S8x8, .i1⟩
  | 81 => ⟨S8x8, .i32⟩
  | 82 => ⟨S8x25x8, .i32⟩
  | 83 => ⟨S200x8, .i32⟩
  | 84 => ⟨S200x8x25, .i32⟩
  | 85 => ⟨S200x200, .i32⟩
  | 86 => ⟨S900x200, .f32⟩
  | 87 => ⟨S_, .i32⟩
  | 88 => ⟨S_, .i32⟩
  | 89 => ⟨S200x200, .i32⟩
  | 90 => ⟨S_, .i32⟩
  | 91 => ⟨S_, .i32⟩
  | 92 => ⟨S900x200, .f32⟩
  | 93 => ⟨S_, .i32⟩
  | 94 => ⟨S_, .i1⟩
  | 95 => ⟨S_, .i32⟩
  | 96 => ⟨S_, .i32⟩
  | 97 => ⟨S_, .f32⟩
  | 98 => ⟨S900x200, .f32⟩
  | 99 => ⟨S900x200, .f32⟩
  | 100 => ⟨S200x900, .f32⟩
  | 101 => ⟨S200x2, .f32⟩
  | 102 => ⟨S200x2, .i32⟩
  | 103 => ⟨S200x1, .f32⟩
  | 104 => ⟨S200, .f32⟩
  | 105 => ⟨S200x1, .f32⟩
  | 106 => ⟨S200, .f32⟩
  | 107 => ⟨S200, .f32⟩
  | 108 => ⟨S200, .f32⟩
  | 109 => ⟨S_, .f32⟩
  | 110 => ⟨S_, .f32⟩
  | 111 => ⟨S200, .f32⟩
  | 112 => ⟨S200, .i1⟩
  | 113 => ⟨S200, .i32⟩
  | 114 => ⟨S_, .i32⟩
  | 115 => ⟨S_, .i32⟩
  | 116 => ⟨S200, .i32⟩
  | 117 => ⟨S200, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8x900x92, .f32⟩

abbrev hbmTy0_3 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S900x1, .f32⟩
  | 6 => ⟨S900, .f32⟩
  | 7 => ⟨S_, .f32⟩
  | 8 => ⟨S_, .f32⟩
  | 9 => ⟨S900, .f32⟩
  | 10 => ⟨S900, .i1⟩
  | 11 => ⟨S900, .i32⟩
  | 12 => ⟨S_, .i32⟩
  | 13 => ⟨S_, .i32⟩
  | 14 => ⟨S900, .i32⟩
  | 15 => ⟨S900, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S_, .f32⟩
  | 25 => ⟨S900, .f32⟩
  | 26 => ⟨S900x200, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1x200, .i32⟩
  | 41 => ⟨S200, .i32⟩
  | 42 => ⟨S_, .i32⟩
  | 43 => ⟨S200, .i32⟩
  | 44 => ⟨S200, .i1⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x200, .f32⟩
  | 59 => ⟨S200, .f32⟩
  | 60 => ⟨S_, .f32⟩
  | 61 => ⟨S_, .f32⟩
  | 62 => ⟨S200, .f32⟩
  | 63 => ⟨S200, .f32⟩
  | 64 => ⟨S_, .i32⟩
  | 65 => ⟨S_, .i1⟩
  | 66 => ⟨S_, .i32⟩
  | 67 => ⟨S_, .i32⟩
  | 68 => ⟨S_, .i32⟩
  | 69 => ⟨S1, .i32⟩
  | 70 => ⟨S900x200, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S1, .i32⟩
  | 82 => ⟨S1, .i32⟩
  | 83 => ⟨S2, .i32⟩
  | 84 => ⟨S_, .f32⟩
  | 85 => ⟨S900x200, .f32⟩
  | 86 => ⟨S_, .i32⟩
  | 87 => ⟨S_, .i32⟩
  | 88 => ⟨S_, .f32⟩
  | 89 => ⟨S900x200, .f32⟩
  | 90 => ⟨S900x200, .i1⟩
  | _ => ⟨S8x900x92, .f32⟩

abbrev hbmTy (i : Nat) : BufTy := match i / 128 with
  | 0 => hbmTy0_0 i
  | 1 => hbmTy0_1 i
  | 2 => hbmTy0_2 i
  | 3 => hbmTy0_3 i
  | _ => ⟨S8x900x92, .f32⟩

abbrev bufTy : (tb : Table) → Fin (tcTables nBuf tb) → BufTy
  | .hbm, ⟨i, _⟩ => hbmTy i
  | _, _ => ⟨S8x900x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_call1_v0 : Ref sig .tc := ⟨.hbm, 165, rfl⟩
abbrev main_call1_v1 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_14 : Ref sig .tc := ⟨.hbm, 177, rfl⟩
abbrev main_v153 : Ref sig .tc := ⟨.hbm, 178, rfl⟩
abbrev main_v154 : Ref sig .tc := ⟨.hbm, 179, rfl⟩
abbrev main_cst_15 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_cst_17 : Ref sig .tc := ⟨.hbm, 190, rfl⟩
abbrev main_v163 : Ref sig .tc := ⟨.hbm, 191, rfl⟩
abbrev main_v164 : Ref sig .tc := ⟨.hbm, 192, rfl⟩
abbrev main_cst_18 : Ref sig .tc := ⟨.hbm, 193, rfl⟩
abbrev main_v165 : Ref sig .tc := ⟨.hbm, 194, rfl⟩
abbrev main_cst_19 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_cst_20 : Ref sig .tc := ⟨.hbm, 201, rfl⟩
abbrev main_v171 : Ref sig .tc := ⟨.hbm, 202, rfl⟩
abbrev main_v172 : Ref sig .tc := ⟨.hbm, 203, rfl⟩
abbrev main_cst_21 : Ref sig .tc := ⟨.hbm, 204, rfl⟩
abbrev main_v173 : Ref sig .tc := ⟨.hbm, 205, rfl⟩
abbrev main_v174 : Ref sig .tc := ⟨.hbm, 206, rfl⟩
abbrev main_cst_22 : Ref sig .tc := ⟨.hbm, 207, rfl⟩
abbrev main_v175 : Ref sig .tc := ⟨.hbm, 208, rfl⟩
abbrev main_cst_23 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_cst_24 : Ref sig .tc := ⟨.hbm, 215, rfl⟩
abbrev main_v181 : Ref sig .tc := ⟨.hbm, 216, rfl⟩
abbrev main_v182 : Ref sig .tc := ⟨.hbm, 217, rfl⟩
abbrev main_cst_25 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_cst_26 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_27 : Ref sig .tc := ⟨.hbm, 226, rfl⟩
abbrev main_cst_28 : Ref sig .tc := ⟨.hbm, 227, rfl⟩
abbrev main_call3_v0 : Ref sig .tc := ⟨.hbm, 228, rfl⟩
abbrev main_call3_v1 : Ref sig .tc := ⟨.hbm, 229, rfl⟩
abbrev main_v189 : Ref sig .tc := ⟨.hbm, 230, rfl⟩
abbrev main_cst_29 : Ref sig .tc := ⟨.hbm, 231, rfl⟩
abbrev main_cst_30 : Ref sig .tc := ⟨.hbm, 232, rfl⟩
abbrev main_call4_v0 : Ref sig .tc := ⟨.hbm, 233, rfl⟩
abbrev main_call4_v1 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_31 : Ref sig .tc := ⟨.hbm, 240, rfl⟩
abbrev main_cst_32 : Ref sig .tc := ⟨.hbm, 241, rfl⟩
abbrev main_call5_v0 : Ref sig .tc := ⟨.hbm, 242, rfl⟩
abbrev main_call5_v1 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_cst_33 : Ref sig .tc := ⟨.hbm, 248, rfl⟩
abbrev main_cst_34 : Ref sig .tc := ⟨.hbm, 249, rfl⟩
abbrev main_call6_v0 : Ref sig .tc := ⟨.hbm, 250, rfl⟩
abbrev main_call6_v1 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_cst_35 : Ref sig .tc := ⟨.hbm, 256, rfl⟩
abbrev main_cst_36 : Ref sig .tc := ⟨.hbm, 257, rfl⟩
abbrev main_call7_v0 : Ref sig .tc := ⟨.hbm, 258, rfl⟩
abbrev main_call7_v1 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_37 : Ref sig .tc := ⟨.hbm, 264, rfl⟩
abbrev main_cst_38 : Ref sig .tc := ⟨.hbm, 265, rfl⟩
abbrev main_call8_v0 : Ref sig .tc := ⟨.hbm, 266, rfl⟩
abbrev main_call8_v1 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_39 : Ref sig .tc := ⟨.hbm, 272, rfl⟩
abbrev main_cst_40 : Ref sig .tc := ⟨.hbm, 273, rfl⟩
abbrev main_call9_v0 : Ref sig .tc := ⟨.hbm, 274, rfl⟩
abbrev main_call9_v1 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_41 : Ref sig .tc := ⟨.hbm, 280, rfl⟩
abbrev main_cst_42 : Ref sig .tc := ⟨.hbm, 281, rfl⟩
abbrev main_call10_v0 : Ref sig .tc := ⟨.hbm, 282, rfl⟩
abbrev main_call10_v1 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_cst_43 : Ref sig .tc := ⟨.hbm, 288, rfl⟩
abbrev main_cst_44 : Ref sig .tc := ⟨.hbm, 289, rfl⟩
abbrev main_call11_v0 : Ref sig .tc := ⟨.hbm, 290, rfl⟩
abbrev main_call11_v1 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_cst_45 : Ref sig .tc := ⟨.hbm, 297, rfl⟩
abbrev main_v224 : Ref sig .tc := ⟨.hbm, 298, rfl⟩
abbrev main_v225 : Ref sig .tc := ⟨.hbm, 299, rfl⟩
abbrev main_cst_46 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_c_47 : Ref sig .tc := ⟨.hbm, 313, rfl⟩
abbrev main_v238 : Ref sig .tc := ⟨.hbm, 314, rfl⟩
abbrev main_v239 : Ref sig .tc := ⟨.hbm, 315, rfl⟩
abbrev main_c_48 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_c_49 : Ref sig .tc := ⟨.hbm, 320, rfl⟩
abbrev main_v243 : Ref sig .tc := ⟨.hbm, 321, rfl⟩
abbrev main_v244 : Ref sig .tc := ⟨.hbm, 322, rfl⟩
abbrev main_c_50 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_c_51 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_c_52 : Ref sig .tc := ⟨.hbm, 343, rfl⟩
abbrev main_c_53 : Ref sig .tc := ⟨.hbm, 344, rfl⟩
abbrev main_v263_0 : Ref sig .tc := ⟨.hbm, 345, rfl⟩
abbrev main_v263_1 : Ref sig .tc := ⟨.hbm, 346, rfl⟩
abbrev main_v263_2 : Ref sig .tc := ⟨.hbm, 347, rfl⟩
abbrev main_v263_3 : Ref sig .tc := ⟨.hbm, 348, rfl⟩
abbrev main_while0c_c_58 : Ref sig .tc := ⟨.hbm, 349, rfl⟩
abbrev main_while0c_v266 : Ref sig .tc := ⟨.hbm, 350, rfl⟩
abbrev main_while0b_c_58 : Ref sig .tc := ⟨.hbm, 351, rfl⟩
abbrev main_while0b_v266 : Ref sig .tc := ⟨.hbm, 352, rfl⟩
abbrev main_while0b_cst_59 : Ref sig .tc := ⟨.hbm, 353, rfl⟩
abbrev main_while0b_v267 : Ref sig .tc := ⟨.hbm, 354, rfl⟩
abbrev main_while0b_v268 : Ref sig .tc := ⟨.hbm, 355, rfl⟩
abbrev main_while0b_v269 : Ref sig .tc := ⟨.hbm, 356, rfl⟩
abbrev main_while0b_values : Ref sig .tc := ⟨.hbm, 357, rfl⟩
abbrev main_while0b_indices : Ref sig .tc := ⟨.hbm, 358, rfl⟩
abbrev main_while0b_v270 : Ref sig .tc := ⟨.hbm, 359, rfl⟩
abbrev main_while0b_v271 : Ref sig .tc := ⟨.hbm, 360, rfl⟩
abbrev main_while0b_v272 : Ref sig .tc := ⟨.hbm, 361, rfl⟩
abbrev main_while0b_v273 : Ref sig .tc := ⟨.hbm, 362, rfl⟩
abbrev main_while0b_v274 : Ref sig .tc := ⟨.hbm, 363, rfl⟩
abbrev main_while0b_v275 : Ref sig .tc := ⟨.hbm, 364, rfl⟩
abbrev main_while0b_cst_60 : Ref sig .tc := ⟨.hbm, 365, rfl⟩
abbrev main_while0b_v276 : Ref sig .tc := ⟨.hbm, 366, rfl⟩
abbrev main_while0b_v277 : Ref sig .tc := ⟨.hbm, 367, rfl⟩
abbrev main_while0b_v278 : Ref sig .tc := ⟨.hbm, 368, rfl⟩
abbrev main_while0b_v279 : Ref sig .tc := ⟨.hbm, 369, rfl⟩
abbrev main_while0b_c_61 : Ref sig .tc := ⟨.hbm, 370, rfl⟩
abbrev main_while0b_call13_v0 : Ref sig .tc := ⟨.hbm, 371, rfl⟩
abbrev main_while0b_call13_v1 : Ref sig .tc := ⟨.hbm, 372, rfl⟩
abbrev main_while0b_v280 : Ref sig .tc := ⟨.hbm, 373, rfl⟩
abbrev main_while0b_c_62 : Ref sig .tc := ⟨.hbm, 374, rfl⟩
abbrev main_while0b_v281 : Ref sig .tc := ⟨.hbm, 375, rfl⟩
abbrev main_while0b_c_63 : Ref sig .tc := ⟨.hbm, 376, rfl⟩
abbrev main_while0b_c_64 : Ref sig .tc := ⟨.hbm, 377, rfl⟩
abbrev main_while0b_v282 : Ref sig .tc := ⟨.hbm, 378, rfl⟩
abbrev main_while0b_c_65 : Ref sig .tc := ⟨.hbm, 379, rfl⟩
abbrev main_while0b_c_66 : Ref sig .tc := ⟨.hbm, 380, rfl⟩
abbrev main_while0b_v283 : Ref sig .tc := ⟨.hbm, 381, rfl⟩
abbrev main_while0b_c_67 : Ref sig .tc := ⟨.hbm, 382, rfl⟩
abbrev main_while0b_v284 : Ref sig .tc := ⟨.hbm, 383, rfl⟩
abbrev main_while0b_c_68 : Ref sig .tc := ⟨.hbm, 384, rfl⟩
abbrev main_while0b_v285 : Ref sig .tc := ⟨.hbm, 385, rfl⟩
abbrev main_while0b_c_69 : Ref sig .tc := ⟨.hbm, 386, rfl⟩
abbrev main_while0b_v286 : Ref sig .tc := ⟨.hbm, 387, rfl⟩
abbrev main_while0b_v287 : Ref sig .tc := ⟨.hbm, 388, rfl⟩
abbrev main_while0b_v288 : Ref sig .tc := ⟨.hbm, 389, rfl⟩
abbrev main_while0b_v289 : Ref sig .tc := ⟨.hbm, 390, rfl⟩
abbrev main_while0b_cst_70 : Ref sig .tc := ⟨.hbm, 391, rfl⟩
abbrev main_while0b_v290 : Ref sig .tc := ⟨.hbm, 392, rfl⟩
abbrev main_while0b_v291 : Ref sig .tc := ⟨.hbm, 393, rfl⟩
abbrev main_while0b_v292 : Ref sig .tc := ⟨.hbm, 394, rfl⟩
abbrev main_while0b_v293 : Ref sig .tc := ⟨.hbm, 395, rfl⟩
abbrev main_while0b_c_71 : Ref sig .tc := ⟨.hbm, 396, rfl⟩
abbrev main_while0b_call14_v0 : Ref sig .tc := ⟨.hbm, 397, rfl⟩
abbrev main_while0b_call14_v1 : Ref sig .tc := ⟨.hbm, 398, rfl⟩
abbrev main_while0b_v294 : Ref sig .tc := ⟨.hbm, 399, rfl⟩
abbrev main_while0b_c_72 : Ref sig .tc := ⟨.hbm, 400, rfl⟩
abbrev main_while0b_v295 : Ref sig .tc := ⟨.hbm, 401, rfl⟩
abbrev main_while0b_c_73 : Ref sig .tc := ⟨.hbm, 402, rfl⟩
abbrev main_while0b_v296 : Ref sig .tc := ⟨.hbm, 403, rfl⟩
abbrev main_while0b_c_74 : Ref sig .tc := ⟨.hbm, 404, rfl⟩
abbrev main_while0b_v297 : Ref sig .tc := ⟨.hbm, 405, rfl⟩
abbrev main_while0b_v298 : Ref sig .tc := ⟨.hbm, 406, rfl⟩
abbrev main_while0b_v299 : Ref sig .tc := ⟨.hbm, 407, rfl⟩
abbrev main_while0b_cst_75 : Ref sig .tc := ⟨.hbm, 408, rfl⟩
abbrev main_while0b_v300 : Ref sig .tc := ⟨.hbm, 409, rfl⟩
abbrev main_while0b_v301 : Ref sig .tc := ⟨.hbm, 410, rfl⟩
abbrev main_while0b_c_76 : Ref sig .tc := ⟨.hbm, 411, rfl⟩
abbrev main_while0b_v302 : Ref sig .tc := ⟨.hbm, 412, rfl⟩
abbrev main_while0b_c_77 : Ref sig .tc := ⟨.hbm, 413, rfl⟩
abbrev main_while0b_v303 : Ref sig .tc := ⟨.hbm, 414, rfl⟩
abbrev main_while0b_v304 : Ref sig .tc := ⟨.hbm, 415, rfl⟩
abbrev main_while0b_c_78 : Ref sig .tc := ⟨.hbm, 416, rfl⟩
abbrev main_while0b_c_79 : Ref sig .tc := ⟨.hbm, 417, rfl⟩
abbrev main_while0b_v305 : Ref sig .tc := ⟨.hbm, 418, rfl⟩
abbrev main_while0b_c_80 : Ref sig .tc := ⟨.hbm, 419, rfl⟩
abbrev main_while0b_c_81 : Ref sig .tc := ⟨.hbm, 420, rfl⟩
abbrev main_while0b_v306 : Ref sig .tc := ⟨.hbm, 421, rfl⟩
abbrev main_while0b_c_82 : Ref sig .tc := ⟨.hbm, 422, rfl⟩
abbrev main_while0b_v307 : Ref sig .tc := ⟨.hbm, 423, rfl⟩
abbrev main_while0b_v308 : Ref sig .tc := ⟨.hbm, 424, rfl⟩
abbrev main_while0b_v309 : Ref sig .tc := ⟨.hbm, 425, rfl⟩
abbrev main_while0b_c_83 : Ref sig .tc := ⟨.hbm, 426, rfl⟩
abbrev main_while0b_v310 : Ref sig .tc := ⟨.hbm, 427, rfl⟩
abbrev main_while0b_v311 : Ref sig .tc := ⟨.hbm, 428, rfl⟩
abbrev main_while0b_c_84 : Ref sig .tc := ⟨.hbm, 429, rfl⟩
abbrev main_while0b_v312 : Ref sig .tc := ⟨.hbm, 430, rfl⟩
abbrev main_while0b_c_85 : Ref sig .tc := ⟨.hbm, 431, rfl⟩
abbrev main_while0b_v313 : Ref sig .tc := ⟨.hbm, 432, rfl⟩
abbrev main_while0b_v314 : Ref sig .tc := ⟨.hbm, 433, rfl⟩
abbrev main_while0b_c_86 : Ref sig .tc := ⟨.hbm, 434, rfl⟩
abbrev main_while0b_c_87 : Ref sig .tc := ⟨.hbm, 435, rfl⟩
abbrev main_while0b_v315 : Ref sig .tc := ⟨.hbm, 436, rfl⟩
abbrev main_while0b_c_88 : Ref sig .tc := ⟨.hbm, 437, rfl⟩
abbrev main_while0b_c_89 : Ref sig .tc := ⟨.hbm, 438, rfl⟩
abbrev main_while0b_v316 : Ref sig .tc := ⟨.hbm, 439, rfl⟩
abbrev main_while0b_c_90 : Ref sig .tc := ⟨.hbm, 440, rfl⟩
abbrev main_while0b_v317 : Ref sig .tc := ⟨.hbm, 441, rfl⟩
abbrev main_while0b_v318 : Ref sig .tc := ⟨.hbm, 442, rfl⟩
abbrev main_while0b_v319 : Ref sig .tc := ⟨.hbm, 443, rfl⟩
abbrev main_while0b_cst_91 : Ref sig .tc := ⟨.hbm, 444, rfl⟩
abbrev main_while0b_call15_v0 : Ref sig .tc := ⟨.hbm, 445, rfl⟩
abbrev main_while0b_call15_v1 : Ref sig .tc := ⟨.hbm, 446, rfl⟩
abbrev main_while0b_v320 : Ref sig .tc := ⟨.hbm, 447, rfl⟩
abbrev main_while0b_c_92 : Ref sig .tc := ⟨.hbm, 448, rfl⟩
abbrev main_while0b_v321 : Ref sig .tc := ⟨.hbm, 449, rfl⟩
abbrev main_while0b_c_93 : Ref sig .tc := ⟨.hbm, 450, rfl⟩
abbrev main_while0b_v322 : Ref sig .tc := ⟨.hbm, 451, rfl⟩
abbrev main_while0b_v323 : Ref sig .tc := ⟨.hbm, 452, rfl⟩
abbrev main_while0b_v324 : Ref sig .tc := ⟨.hbm, 453, rfl⟩
abbrev main_while0b_v325 : Ref sig .tc := ⟨.hbm, 454, rfl⟩
abbrev main_while0b_c_94 : Ref sig .tc := ⟨.hbm, 455, rfl⟩
abbrev main_while0b_v326 : Ref sig .tc := ⟨.hbm, 456, rfl⟩
abbrev main_while0b_c_95 : Ref sig .tc := ⟨.hbm, 457, rfl⟩
abbrev main_while0b_v327 : Ref sig .tc := ⟨.hbm, 458, rfl⟩
abbrev main_while0b_v328 : Ref sig .tc := ⟨.hbm, 459, rfl⟩
abbrev main_while0b_c_96 : Ref sig .tc := ⟨.hbm, 460, rfl⟩
abbrev main_while0b_v329 : Ref sig .tc := ⟨.hbm, 461, rfl⟩
abbrev main_while0b_c_97 : Ref sig .tc := ⟨.hbm, 462, rfl⟩
abbrev main_while0b_v330 : Ref sig .tc := ⟨.hbm, 463, rfl⟩
abbrev main_while0b_v331 : Ref sig .tc := ⟨.hbm, 464, rfl⟩
abbrev main_while0b_v332 : Ref sig .tc := ⟨.hbm, 465, rfl⟩
abbrev main_while0b_v333 : Ref sig .tc := ⟨.hbm, 466, rfl⟩
abbrev main_while0b_v334 : Ref sig .tc := ⟨.hbm, 467, rfl⟩
abbrev main_while0b_cst_98 : Ref sig .tc := ⟨.hbm, 468, rfl⟩
abbrev main_while0b_v335 : Ref sig .tc := ⟨.hbm, 469, rfl⟩
abbrev main_while0b_c_99 : Ref sig .tc := ⟨.hbm, 470, rfl⟩
abbrev main_while0b_v336 : Ref sig .tc := ⟨.hbm, 471, rfl⟩
abbrev main_cst_54 : Ref sig .tc := ⟨.hbm, 472, rfl⟩
abbrev main_v264 : Ref sig .tc := ⟨.hbm, 473, rfl⟩
abbrev main_v265 : Ref sig .tc := ⟨.hbm, 474, rfl⟩

abbrev nD : Nat := 1
abbrev τ : Topo := Topo.v7x

variable {F : FTy → Type} [FloatOps F]

abbrev main_while0_count : Scf.Loop 32 := ⟨0#32, 200#32, 1#32⟩
-- ==== Proof.KernelRun.lean ====
/- The kernel's run over its scratch buffer: the eight images' blocks of quantiles it starts the matching loop from, one trip of
   the loop as a function of the buffer, and what the region leaves in its result array. -/
module

public import proofs.«01_k».proof.Proof.Gen.KernelIdeal.Frame
public import Idealize.ShloMosaic.Lib.WritesUnit
public import Idealize.ShloMosaic.Lib.VecWindow
public import Idealize.ShloMosaic.Lib.StableHlo.RunRead

@[expose] public section

set_option maxRecDepth 8192

noncomputable section

namespace Cert.KernelIdeal.Match

open Idealize.ShloMosaic Idealize.ShloMosaic.TcCoe Idealize.SL.Sem Cert.KernelIdeal Cert.KernelIdeal.Gen

variable {F : FTy → Type} [FloatOps F] [Named F]

/-! ## One image -/

/-- The quantile argument `erf z` of one image's 32 rows, from its boxes and the class probabilities of its rows. -/
def boxArg (v19 : Vec F S1x4x900 .f32) (v25 : Vec F S1x32x4 .f32) (v18 : FVec F S32x900 .f32) :
    FVec F S32x900 .f32 :=
  let cx := k0_pay13 v19; let cy := k0_pay14 v19; let w := k0_pay15 v19; let h := k0_pay16 v19
  let tx := k0_pay18 v25; let ty := k0_pay19 v25; let tw := k0_pay20 v25; let th := k0_pay21 v25
  k0_pay36 v18 (k0_pay23 h th (k0_pay22 v19 v25)) (k0_pay24 cx w) (k0_pay25 cx w) (k0_pay26 cy h) (k0_pay27 cy h)
    (k0_pay28 tx tw) (k0_pay29 tx tw) (k0_pay30 ty th) (k0_pay31 ty th) (k0_pay32 cx cy w h) (k0_pay33 tx ty tw th)
    (k0_pay34 cx w tx tw) (k0_pay35 cy h ty th)

/-- The half-normal quantile of `erf z`: the probability, and the inverse error function of it. -/
def quant (v144 : FVec F S32x900 .f32) : FVec F S32x900 .f32 :=
  k0_pay42 (k0_pay37 v144) (k0_pay39 v144) (k0_pay40 v144) (k0_pay41 v144)
    (Scalar.ofBits .f32 0xBAA45408#32) (Scalar.ofBits .f32 0xBBF9C5D7#32)

/-- The 32 rows of quantiles of one image, from its four blocks of the arguments. -/
def imgBlock (v0 : Vec F S1x900x92 .f32) (v11 : Vec F S1x32x1 .i32) (v19 : Vec F S1x4x900 .f32)
    (v25 : Vec F S1x32x4 .f32) : FVec F S32x900 .f32 :=
  quant (boxArg v19 v25 (k0_pay11 v0 v11))

/-! ## One trip of the matching loop -/

/-- The row (column of the problem) numbers of the scratch buffer. -/
abbrev rowIota : IVec S256x1 32 := iota .tc S256x1 32 [0] iota_S256x1_d0_w32

/-- The query numbers. -/
abbrev qryIota : IVec S256x900 32 := iota .tc S256x900 32 [1] iota_S256x900_d1_w32

/-- Which rows are padding. -/
abbrev padRows : IVec S256x1 1 := k0_pay289 rowIota 32#32 k0_pay288

/-- The row with the largest gap. -/
def colWord (B : Vec F S256x900 .f32) : BitVec 32 :=
  extractAt ![0, 0, 0] (k0_pay4 rowIota qryIota padRows B) inpos_S1x1x1_p0_0_0

/-- The query that row takes. -/
def rowWord (B : Vec F S256x900 .f32) : BitVec 32 :=
  extractAt ![0, 0, 0] (k0_pay7 (k0_pay3 qryIota B) (k0_pay5 rowIota qryIota padRows B) k0_pay6) inpos_S1x1x1_p0_0_0

/-- The quotient by 32 rounded down, as the kernel computes it of a word. -/
def floorDiv (w : BitVec 32) : BitVec 32 :=
  Scalar.select
    (Scalar.andi (Scalar.cmpi .ne (Scalar.subi (Scalar.extui (Scalar.cmpi .sgt w 0#32)) (Scalar.extui (Scalar.cmpi .slt w 0#32))) 1#32)
      (Scalar.cmpi .ne (Scalar.remsi w 32#32) 0#32))
    (Scalar.subi (Scalar.divsi w 32#32) 1#32) (Scalar.divsi w 32#32)

/-- The scratch buffer after one trip. -/
def stepK (B : Vec F S256x900 .f32) : Vec F S256x900 .f32 :=
  k0_pay1 qryIota B (rowWord B) (floorDiv (colWord B)) (k0_pay8 rowIota (colWord B)) (k0_pay9 rowIota) (k0_pay10 rowIota) 1#32

variable (c : Dev nD) (arg0 : Memref sig .tc .vmem S8x900x92 .f32) (harg0 : arg0.IsWhole) (arg1 : Memref sig .tc .vmem S8x4x900 .f32) (harg1 : arg1.IsWhole) (arg2 : Memref sig .tc .vmem S8x32x4 .f32) (harg2 : arg2.IsWhole) (arg3 : Memref sig .tc .vmem S8x32x1 .i32) (harg3 : arg3.IsWhole)
 (x0 : Vec F S8x900x92 .f32) (x1 : Vec F S8x4x900 .f32) (x2 : Vec F S8x32x4 .f32) (x3 : Vec F S8x32x1 .i32)
 (arg4 : Memref sig .tc .vmem S256x900 .i8) (harg4 : arg4.IsWhole) (arg5 : Memref sig .tc .vmem S256x900 .f32) (harg5 : arg5.IsWhole)

/-- What the eight images store before the loop: one block of 32 rows each, every one the same function of its image's blocks. -/
theorem pieces : kernelRun0_A.sl.HS0_8 c arg0 harg0 arg1 harg1 arg2 harg2 arg3 harg3 x0 x1 x2 x3 = [
  ⟨Rect.unit (s := S256x900) ![224, 0] S32x900.size inb_S256x900_S32x900_224_0, imgBlock (View.readAt (Elt F) arg0.view (Rect.unit (s := S8x900x92) ![7, 0, 0] S1x900x92.size inb_S8x900x92_S1x900x92_7_0_0).toLoadRect (harg0.unread x0)) (View.readAt (Elt F) arg3.view (Rect.unit (s := S8x32x1) ![7, 0, 0] S1x32x1.size inb_S8x32x1_S1x32x1_7_0_0).toLoadRect (harg3.unread x3)) (View.readAt (Elt F) arg1.view (Rect.unit (s := S8x4x900) ![7, 0, 0] S1x4x900.size inb_S8x4x900_S1x4x900_7_0_0).toLoadRect (harg1.unread x1)) (View.readAt (Elt F) arg2.view (Rect.unit (s := S8x32x4) ![7, 0, 0] S1x32x4.size inb_S8x32x4_S1x32x4_7_0_0).toLoadRect (harg2.unread x2))⟩,
  ⟨Rect.unit (s := S256x900) ![192, 0] S32x900.size inb_S256x900_S32x900_192_0, imgBlock (View.readAt (Elt F) arg0.view (Rect.unit (s := S8x900x92) ![6, 0, 0] S1x900x92.size inb_S8x900x92_S1x900x92_6_0_0).toLoadRect (harg0.unread x0)) (View.readAt (Elt F) arg3.view (Rect.unit (s := S8x32x1) ![6, 0, 0] S1x32x1.size inb_S8x32x1_S1x32x1_6_0_0).toLoadRect (harg3.unread x3)) (View.readAt (Elt F) arg1.view (Rect.unit (s := S8x4x900) ![6, 0, 0] S1x4x900.size inb_S8x4x900_S1x4x900_6_0_0).toLoadRect (harg1.unread x1)) (View.readAt (Elt F) arg2.view (Rect.unit (s := S8x32x4) ![6, 0, 0] S1x32x4.size inb_S8x32x4_S1x32x4_6_0_0).toLoadRect (harg2.unread x2))⟩,
  ⟨Rect.unit (s := S256x900) ![160, 0] S32x900.size inb_S256x900_S32x900_160_0, imgBlock (View.readAt (Elt F) arg0.view (Rect.unit (s := S8x900x92) ![5, 0, 0] S1x900x92.size inb_S8x900x92_S1x900x92_5_0_0).toLoadRect (harg0.unread x0)) (View.readAt (Elt F) arg3.view (Rect.unit (s := S8x32x1) ![5, 0, 0] S1x32x1.size inb_S8x32x1_S1x32x1_5_0_0).toLoadRect (harg3.unread x3)) (View.readAt (Elt F) arg1.view (Rect.unit (s := S8x4x900) ![5, 0, 0] S1x4x900.size inb_S8x4x900_S1x4x900_5_0_0).toLoadRect (harg1.unread x1)) (View.readAt (Elt F) arg2.view (Rect.unit (s := S8x32x4) ![5, 0, 0] S1x32x4.size inb_S8x32x4_S1x32x4_5_0_0).toLoadRect (harg2.unread x2))⟩,
  ⟨Rect.unit (s := S256x900) ![128, 0] S32x900.size inb_S256x900_S32x900_128_0, imgBlock (View.readAt (Elt F) arg0.view (Rect.unit (s := S8x900x92) ![4, 0, 0] S1x900x92.size inb_S8x900x92_S1x900x92_4_0_0).toLoadRect (harg0.unread x0)) (View.readAt (Elt F) arg3.view (Rect.unit (s := S8x32x1) ![4, 0, 0] S1x32x1.size inb_S8x32x1_S1x32x1_4_0_0).toLoadRect (harg3.unread x3)) (View.readAt (Elt F) arg1.view (Rect.unit (s := S8x4x900) ![4, 0, 0] S1x4x900.size inb_S8x4x900_S1x4x900_4_0_0).toLoadRect (harg1.unread x1)) (View.readAt (Elt F) arg2.view (Rect.unit (s := S8x32x4) ![4, 0, 0] S1x32x4.size inb_S8x32x4_S1x32x4_4_0_0).toLoadRect (harg2.unread x2))⟩,
  ⟨Rect.unit (s := S256x900) ![96, 0] S32x900.size inb_S256x900_S32x900_96_0, imgBlock (View.readAt (Elt F) arg0.view (Rect.unit (s := S8x900x92) ![3, 0, 0] S1x900x92.size inb_S8x900x92_S1x900x92_3_0_0).toLoadRect (harg0.unread x0)) (View.readAt (Elt F) arg3.view (Rect.unit (s := S8x32x1) ![3, 0, 0] S1x32x1.size inb_S8x32x1_S1x32x1_3_0_0).toLoadRect (harg3.unread x3)) (View.readAt (Elt F) arg1.view (Rect.unit (s := S8x4x900) ![3, 0, 0] S1x4x900.size inb_S8x4x900_S1x4x900_3_0_0).toLoadRect (harg1.unread x1)) (View.readAt (Elt F) arg2.view (Rect.unit (s := S8x32x4) ![3, 0, 0] S1x32x4.size inb_S8x32x4_S1x32x4_3_0_0).toLoadRect (harg2.unread x2))⟩,
  ⟨Rect.unit (s := S256x900) ![64, 0] S32x900.size inb_S256x900_S32x900_64_0, imgBlock (View.readAt (Elt F) arg0.view (Rect.unit (s := S8x900x92) ![2, 0, 0] S1x900x92.size inb_S8x900x92_S1x900x92_2_0_0).toLoadRect (harg0.unread x0)) (View.readAt (Elt F) arg3.view (Rect.unit (s := S8x32x1) ![2, 0, 0] S1x32x1.size inb_S8x32x1_S1x32x1_2_0_0).toLoadRect (harg3.unread x3)) (View.readAt (Elt F) arg1.view (Rect.unit (s := S8x4x900) ![2, 0, 0] S1x4x900.size inb_S8x4x900_S1x4x900_2_0_0).toLoadRect (harg1.unread x1)) (View.readAt (Elt F) arg2.view (Rect.unit (s := S8x32x4) ![2, 0, 0] S1x32x4.size inb_S8x32x4_S1x32x4_2_0_0).toLoadRect (harg2.unread x2))⟩,
  ⟨Rect.unit (s := S256x900) ![32, 0] S32x900.size inb_S256x900_S32x900_32_0, imgBlock (View.readAt (Elt F) arg0.view (Rect.unit (s := S8x900x92) ![1, 0, 0] S1x900x92.size inb_S8x900x92_S1x900x92_1_0_0).toLoadRect (harg0.unread x0)) (View.readAt (Elt F) arg3.view (Rect.unit (s := S8x32x1) ![1, 0, 0] S1x32x1.size inb_S8x32x1_S1x32x1_1_0_0).toLoadRect (harg3.unread x3)) (View.readAt (Elt F) arg1.view (Rect.unit (s := S8x4x900) ![1, 0, 0] S1x4x900.size inb_S8x4x900_S1x4x900_1_0_0).toLoadRect (harg1.unread x1)) (View.readAt (Elt F) arg2.view (Rect.unit (s := S8x32x4) ![1, 0, 0] S1x32x4.size inb_S8x32x4_S1x32x4_1_0_0).toLoadRect (harg2.unread x2))⟩,
  ⟨Rect.unit (s := S256x900) ![0, 0] S32x900.size inb_S256x900_S32x900_0_0, imgBlock (View.readAt (Elt F) arg0.view (Rect.unit (s := S8x900x92) ![0, 0, 0] S1x900x92.size inb_S8x900x92_S1x900x92_0_0_0).toLoadRect (harg0.unread x0)) (View.readAt (Elt F) arg3.view (Rect.unit (s := S8x32x1) ![0, 0, 0] S1x32x1.size inb_S8x32x1_S1x32x1_0_0_0).toLoadRect (harg3.unread x3)) (View.readAt (Elt F) arg1.view (Rect.unit (s := S8x4x900) ![0, 0, 0] S1x4x900.size inb_S8x4x900_S1x4x900_0_0_0).toLoadRect (harg1.unread x1)) (View.readAt (Elt F) arg2.view (Rect.unit (s := S8x32x4) ![0, 0, 0] S1x32x4.size inb_S8x32x4_S1x32x4_0_0_0).toLoadRect (harg2.unread x2))⟩] := rfl

/-- One trip stores the whole buffer, `stepK` of what it finds there. -/
theorem trip_piece (k : Fin k0_t1_loop.trips) (f : BufTy.Contents (Elt F) arg5.view.ty) :
    (trip_k0_t1 (F := F) Variants.none c none arg0 harg0 arg1 harg1 arg2 harg2 arg3 harg3 arg4 harg4 arg5 harg5 kernelRun0_A.sl.v1744
        kernelRun0_A.sl.v1745 kernelRun0_A.sl.r_48 0#32 k).1 f
      = [⟨Rect.unit (s := S256x900) ![0, 0] S256x900.size inb_S256x900_S256x900_0_0,
          stepK (View.readAt (Elt F) arg5.view (Rect.unit (s := S256x900) ![0, 0] S256x900.size inb_S256x900_S256x900_0_0).toLoadRect f)⟩] := by
  unfold trip_k0_t1
  rfl

/-- The buffer after `n` trips is `stepK` iterated on the buffer the loop starts from. -/
theorem read_trips (G : BufTy.Contents (Elt F) arg5.view.ty) : ∀ n : ℕ, n ≤ k0_t1_loop.trips →
    arg5.view.read (Elt F) (arg5.view.writes (Elt F) G
        (pb_k0_t1 (F := F) Variants.none c none arg0 harg0 arg1 harg1 arg2 harg2 arg3 harg3 arg4 harg4 arg5 harg5 kernelRun0_A.sl.v1744
          kernelRun0_A.sl.v1745 kernelRun0_A.sl.r_48 0#32 G n))
      = stepK^[n] (arg5.view.read (Elt F) G)
  | 0, _ => rfl
  | n + 1, h => by
    have ih := read_trips G n (by omega)
    rw [Function.iterate_succ_apply', ← ih]
    have hs := pb_k0_t1_succ (F := F) Variants.none c none arg0 harg0 arg1 harg1 arg2 harg2 arg3 harg3 arg4 harg4 arg5 harg5
      kernelRun0_A.sl.v1744 kernelRun0_A.sl.v1745 kernelRun0_A.sl.r_48 0#32 G ⟨n, h⟩
    rw [show (⟨n, h⟩ : Fin k0_t1_loop.trips).val + 1 = n + 1 from rfl] at hs
    rw [hs]
    unfold tripL_k0_t1
    rw [trip_piece]
    rw [List.singleton_append, View.read_writes_full]
    congr 1
    exact View.readAt_full _ _ _

/-- What the region's body leaves in the result block: which entries of the buffer are negative after the trips. -/
theorem run_eq : (kernelRun0_A c arg0 harg0 arg1 harg1 arg2 harg2 arg3 harg3 arg4 harg4 arg5 harg5 x0 x1 x2 x3).1
    = [⟨Rect.unit (s := S256x900) ![0, 0] S256x900.size inb_S256x900_S256x900_0_0,
        k0_pay2 (stepK^[200] (arg5.view.read (Elt F) (arg5.view.writes (Elt F) arg5.view.junk
          (kernelRun0_A.sl.HS0_8 c arg0 harg0 arg1 harg1 arg2 harg2 arg3 harg3 x0 x1 x2 x3))))⟩] := by
  unfold kernelRun0_A
  dsimp only
  unfold kernelRun0_A.sl.v1765
  rw [View.writes_append]
  have h := read_trips c arg0 harg0 arg1 harg1 arg2 harg2 arg3 harg3 arg4 harg4 arg5 harg5 (arg5.view.writes (Elt F) arg5.view.junk
    (kernelRun0_A.sl.HS0_8 c arg0 harg0 arg1 harg1 arg2 harg2 arg3 harg3 x0 x1 x2 x3)) 200 (by decide)
  rw [← h]
  congr 3
  exact View.readAt_full _ _ _

end Cert.KernelIdeal.Match

end
-- ==== Proof.KernelOut.lean ====
/- What the kernel's program leaves in its result, entry by entry, over the blocks of quantiles of the eight images and the matching
   loop's trips. -/
module

public import proofs.«01_k».proof.Proof.KernelRun
public import Idealize.ShloMosaic.Lib.Pointwise
public import Idealize.ShloMosaic.Lib.Pipeline.Value

@[expose] public section

set_option maxRecDepth 16384

noncomputable section

namespace Cert.KernelIdeal.Match

open Idealize.ShloMosaic Idealize.ShloMosaic.TcCoe Idealize.SL.Sem Cert.KernelIdeal Cert.KernelIdeal.Gen
open Idealize.ShloMosaic.Pipeline (Dat)

variable {F : FTy → Type} [FloatOps F] [Named F]

section
variable (c : Dev nD) (arg0 : Memref sig .tc .vmem S8x900x92 .f32) (harg0 : arg0.IsWhole)
  (arg1 : Memref sig .tc .vmem S8x4x900 .f32) (harg1 : arg1.IsWhole) (arg2 : Memref sig .tc .vmem S8x32x4 .f32) (harg2 : arg2.IsWhole)
  (arg3 : Memref sig .tc .vmem S8x32x1 .i32) (harg3 : arg3.IsWhole)
  (x0 : Vec F S8x900x92 .f32) (x1 : Vec F S8x4x900 .f32) (x2 : Vec F S8x32x4 .f32) (x3 : Vec F S8x32x1 .i32)

/-- Image `b`'s block of an array of eight images. -/
def img {α : Type} {n k : ℕ} (x : (⟨3, ![8, n, k]⟩ : Shape).Idx → α) (b : Fin 8) : (⟨3, ![1, n, k]⟩ : Shape).Idx → α :=
  fun i => x (ix3 b (i 1) (i 2))

/-- The buffer the loop starts from: row `32 b + j` is row `j` of image `b`'s quantiles. -/
def start (x0 : Vec F S8x900x92 .f32) (x1 : Vec F S8x4x900 .f32) (x2 : Vec F S8x32x4 .f32) (x3 : Vec F S8x32x1 .i32) :
    Vec F S256x900 .f32 := fun i =>
  imgBlock (img x0 ⟨(i 0).val / 32, by have := (i 0).isLt; change (i 0).val < 256 at this; omega⟩)
    (img x3 ⟨(i 0).val / 32, by have := (i 0).isLt; change (i 0).val < 256 at this; omega⟩)
    (img x1 ⟨(i 0).val / 32, by have := (i 0).isLt; change (i 0).val < 256 at this; omega⟩)
    (img x2 ⟨(i 0).val / 32, by have := (i 0).isLt; change (i 0).val < 256 at this; omega⟩)
    (ix2 ⟨(i 0).val % 32, Nat.mod_lt _ (by decide)⟩ (i 1))

/-- A load of image `b` of a whole argument is that image's block of it. -/
theorem readAt_img {n k : ℕ} {e : EltTy} (M : Memref sig .tc .vmem ⟨3, ![8, n, k]⟩ e) (hM : M.IsWhole)
    (x : (⟨3, ![8, n, k]⟩ : Shape).Idx → Elt F e) (b : Fin 8) (o : Fin 3 → ℕ) (ho : o = ![b.val, 0, 0])
    (inb : ∀ a : Fin (⟨3, ![8, n, k]⟩ : Shape).rank, o a + (⟨3, ![1, n, k]⟩ : Shape).size a ≤ (⟨3, ![8, n, k]⟩ : Shape).size a) :
    View.readAt (Elt F) M.view (Rect.unit (s := ⟨3, ![8, n, k]⟩) o (⟨3, ![1, n, k]⟩ : Shape).size inb).toLoadRect (hM.unread x)
      = img x b := by
  subst ho
  funext i
  rw [View.readAt_apply]
  show M.view.read (Elt F) (hM.unread x) _ = _
  rw [hM.read_unread]
  unfold img
  congr 1
  funext a
  apply Fin.ext
  have h0 : (i 0).val = 0 := by have := (i 0).isLt; change (i 0).val < 1 at this; omega
  match a with
  | ⟨0, _⟩ => show b.val + 1 * (i 0).val = b.val; omega
  | ⟨1, _⟩ => show 0 + 1 * (i 1).val = (i 1).val; omega
  | ⟨2, _⟩ => show 0 + 1 * (i 2).val = (i 2).val; omega

/-- One image's stored block over the blocks stored before it. -/
theorem read_piece (v : View sig .tc .vmem S256x900 .f32) (f : v.ty.Contents (Elt F)) (b : Fin 8) (o : Fin 2 → ℕ) (ho : o = ![32 * b.val, 0])
    (inb : ∀ a : Fin S256x900.rank, o a + S32x900.size a ≤ S256x900.size a)
    (w : Vec F S32x900 .f32) (L : List (View.Piece (Elt F) S256x900 .f32)) (i : S256x900.Idx) :
    v.read (Elt F) (v.writes (Elt F) f (⟨Rect.unit (s := S256x900) o S32x900.size inb, w⟩ :: L)) i
      = if (i 0).val / 32 = b.val then w (ix2 ⟨(i 0).val % 32, Nat.mod_lt _ (by decide)⟩ (i 1)) else v.read (Elt F) (v.writes (Elt F) f L) i := by
  subst ho
  have h1 : (i 1).val < 900 := (i 1).isLt
  rw [View.read_writes_cons_unit v _ inb w L i rfl]
  by_cases h : (i 0).val / 32 = b.val
  · rw [if_pos h, dif_pos (fun a => by
      match a with
      | ⟨0, _⟩ => show 32 * b.val ≤ (i 0).val ∧ (i 0).val < 32 * b.val + 32; omega
      | ⟨1, _⟩ => show 0 ≤ (i 1).val ∧ (i 1).val < 0 + 900; omega)]
    congr 1
    funext a
    apply Fin.ext
    match a with
    | ⟨0, _⟩ => show (i 0).val - 32 * b.val = (i 0).val % 32; omega
    | ⟨1, _⟩ => show (i 1).val - 0 = (i 1).val; omega
  · rw [if_neg h, dif_neg (fun hall => h (by
      have h0 : 32 * b.val ≤ (i 0).val ∧ (i 0).val < 32 * b.val + 32 := hall (0 : Fin 2)
      omega))]

/-- Image `b`'s store, made of loads of the whole arguments, over the blocks stored before it. -/
theorem read_image (v : View sig .tc .vmem S256x900 .f32) (f : v.ty.Contents (Elt F)) (b : Fin 8) (o : Fin 2 → ℕ) (p : Fin 3 → ℕ)
    (ho : o = ![32 * b.val, 0]) (hp : p = ![b.val, 0, 0])
    (inb : ∀ a : Fin S256x900.rank, o a + S32x900.size a ≤ S256x900.size a)
    (inb0 : ∀ a : Fin S8x900x92.rank, p a + S1x900x92.size a ≤ S8x900x92.size a)
    (inb1 : ∀ a : Fin S8x4x900.rank, p a + S1x4x900.size a ≤ S8x4x900.size a)
    (inb2 : ∀ a : Fin S8x32x4.rank, p a + S1x32x4.size a ≤ S8x32x4.size a)
    (inb3 : ∀ a : Fin S8x32x1.rank, p a + S1x32x1.size a ≤ S8x32x1.size a)
    (L : List (View.Piece (Elt F) S256x900 .f32)) (i : S256x900.Idx) (r : F .f32)
    (hL : (i 0).val / 32 ≠ b.val → v.read (Elt F) (v.writes (Elt F) f L) i = r) (hr : (i 0).val / 32 = b.val → r = start x0 x1 x2 x3 i) :
    v.read (Elt F) (v.writes (Elt F) f (⟨Rect.unit (s := S256x900) o S32x900.size inb, imgBlock
        (View.readAt (Elt F) arg0.view (Rect.unit (s := S8x900x92) p S1x900x92.size inb0).toLoadRect (harg0.unread x0))
        (View.readAt (Elt F) arg3.view (Rect.unit (s := S8x32x1) p S1x32x1.size inb3).toLoadRect (harg3.unread x3))
        (View.readAt (Elt F) arg1.view (Rect.unit (s := S8x4x900) p S1x4x900.size inb1).toLoadRect (harg1.unread x1))
        (View.readAt (Elt F) arg2.view (Rect.unit (s := S8x32x4) p S1x32x4.size inb2).toLoadRect (harg2.unread x2))⟩ :: L)) i = r := by
  refine (read_piece v f b o ho inb _ L i).trans ?_
  by_cases h : (i 0).val / 32 = b.val
  · rw [if_pos h, hr h]
    have e : (⟨(i 0).val / 32, by have := (i 0).isLt; change (i 0).val < 256 at this; omega⟩ : Fin 8) = b := Fin.ext h
    unfold start
    rw [e, readAt_img arg0 harg0 x0 b p hp, readAt_img arg1 harg1 x1 b p hp, readAt_img arg2 harg2 x2 b p hp,
      readAt_img arg3 harg3 x3 b p hp]
  · rw [if_neg h, hL h]

/-- The eight stores leave `start`. -/
theorem read_start (v : View sig .tc .vmem S256x900 .f32) (f : v.ty.Contents (Elt F)) :
    v.read (Elt F) (v.writes (Elt F) f (kernelRun0_A.sl.HS0_8 c arg0 harg0 arg1 harg1 arg2 harg2 arg3 harg3 x0 x1 x2 x3))
      = start x0 x1 x2 x3 := by
  funext i
  have hi : (i 0).val < 256 := (i 0).isLt
  rw [pieces]
  have R := fun b o p ho hp inb inb0 inb1 inb2 inb3 L hL =>
    read_image arg0 harg0 arg1 harg1 arg2 harg2 arg3 harg3 x0 x1 x2 x3 v f b o p ho hp inb inb0 inb1 inb2 inb3 L i _ hL (fun _ => rfl)
  refine R 7 _ _ rfl rfl _ _ _ _ _ _ fun h7 => ?_
  refine R 6 _ _ rfl rfl _ _ _ _ _ _ fun h6 => ?_
  refine R 5 _ _ rfl rfl _ _ _ _ _ _ fun h5 => ?_
  refine R 4 _ _ rfl rfl _ _ _ _ _ _ fun h4 => ?_
  refine R 3 _ _ rfl rfl _ _ _ _ _ _ fun h3 => ?_
  refine R 2 _ _ rfl rfl _ _ _ _ _ _ fun h2 => ?_
  refine R 1 _ _ rfl rfl _ _ _ _ _ _ fun h1 => ?_
  refine R 0 _ _ rfl rfl _ _ _ _ _ _ fun h0 => ?_
  exfalso
  have h0' : (i 0).val / 32 ≠ 0 := h0
  have h1' : (i 0).val / 32 ≠ 1 := h1
  have h2' : (i 0).val / 32 ≠ 2 := h2
  have h3' : (i 0).val / 32 ≠ 3 := h3
  have h4' : (i 0).val / 32 ≠ 4 := h4
  have h5' : (i 0).val / 32 ≠ 5 := h5
  have h6' : (i 0).val / 32 ≠ 6 := h6
  have h7' : (i 0).val / 32 ≠ 7 := h7
  omega

end

variable (m : (ℓ : Loc nD τ sig) → Buf (Elt F) ℓ) (ρ : Dev nD → PrngReg)

/-- The region's argument arrays, as the region finds them. -/
abbrev regLogits (c : Dev nD) : Vec F S8x900x92 .f32 := V m c main_arg0
abbrev regBoxes (c : Dev nD) : Vec F S8x4x900 .f32 := V m c main_call0_v0
abbrev regTargets (c : Dev nD) : Vec F S8x32x4 .f32 := V m c main_call0_v2
abbrev regLabels (c : Dev nD) : Vec F S8x32x1 .i32 := V m c main_call0_v5

theorem iblk0 (c : Dev nD) (t : Fin cfg0.N) : iblk m c 0 t = regLogits m c := by
  rw [fin_N0 t]
  have hz' : (fun a => win0_0.index t0_0 a * main_arg0.ty.shape.size a) = fun _ => 0 := funext fun a => by fin_cases a <;> decide
  exact (Memref.read_access_unit_zero (Elt F) main_arg0 hz' (fun a => by rw [congrFun hz' a]; simp) (regLogits m c))
theorem iblk1 (c : Dev nD) (t : Fin cfg0.N) : iblk m c 1 t = regBoxes m c := by
  rw [fin_N0 t]
  have hz' : (fun a => win0_1.index t0_0 a * main_call0_v0.ty.shape.size a) = fun _ => 0 := funext fun a => by fin_cases a <;> decide
  exact (Memref.read_access_unit_zero (Elt F) main_call0_v0 hz' (fun a => by rw [congrFun hz' a]; simp) (regBoxes m c))
theorem iblk2 (c : Dev nD) (t : Fin cfg0.N) : iblk m c 2 t = regTargets m c := by
  rw [fin_N0 t]
  have hz' : (fun a => win0_2.index t0_0 a * main_call0_v2.ty.shape.size a) = fun _ => 0 := funext fun a => by fin_cases a <;> decide
  exact (Memref.read_access_unit_zero (Elt F) main_call0_v2 hz' (fun a => by rw [congrFun hz' a]; simp) (regTargets m c))
theorem iblk3 (c : Dev nD) (t : Fin cfg0.N) : iblk m c 3 t = regLabels m c := by
  rw [fin_N0 t]
  have hz' : (fun a => win0_3.index t0_0 a * main_call0_v5.ty.shape.size a) = fun _ => 0 := funext fun a => by fin_cases a <;> decide
  exact (Memref.read_access_unit_zero (Elt F) main_call0_v5 hz' (fun a => by rw [congrFun hz' a]; simp) (regLabels m c))

/-- What the region leaves in its result array. -/
def regOut (c : Dev nD) : Vec F S256x900 .i8 :=
  k0_pay2 (stepK^[200] (start (regLogits m c) (regBoxes m c) (regTargets m c) (regLabels m c)))

theorem outsAt_eq (c : Dev nD) (t : Fin cfg0.N) : outsAt0 m c t = regOut m c := by
  unfold outsAt0 out0_A_4 regOut
  rw [run_eq, View.read_writes_full, read_start, iblk0, iblk1, iblk2, iblk3]

theorem flushed_eq (c : Dev nD) (t : Fin cfg0.N) (hf : (cfg0.win 4).flush t = true) :
    (dats m 0 c).flushed 4 t = ((cfg0.win 4).blk t).view.read (Elt F) (regOut m c : Buf (Elt F) ((c : Thread nD τ).loc main_call0_v6)) := by
  rw [fin_N0 t]
  show (cfg0.win 4).cut (grid0.coords t0_0) ((dats m 0 c).after 4 t0_0) = _
  rw [after0_4, outsAt_eq]
  have hz' : (fun a => win0_4.index t0_0 a * main_call0_v6.ty.shape.size a) = fun _ => 0 := funext fun a => by fin_cases a <;> decide
  exact (Memref.read_access_unit_zero (Elt F) main_call0_v6 hz' (fun a => by rw [congrFun hz' a]; simp) (regOut m c)).symm

/-- The region's result array after the run. -/
theorem final_out (c : Dev nD) : (dats m 0 c).arrAt 4 cfg0.N = regOut m c :=
  (dats m 0 c).arrAt_eq_of_cover 4 (regOut m c) (flushed_eq m c) fun i =>
    ⟨t0_0, flush0_4 t0_0, by
      show i ∈ ((View.whole main_call0_v6).slice (win0_4.rect t0_0)).set
      rw [View.set_slice_whole, Rect.mem_set_unit]
      intro a
      have h0 : (i 0 : Nat) < 256 := (i 0).isLt
      have h1 : (i 1 : Nat) < 900 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 256 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 900 from by decide +kernel]; omega⟩

end Cert.KernelIdeal.Match

end
-- ==== Proof.KernelHost.lean ====
/- The kernel's program around the region: the arrays it hands to the region, and its result read off the region's. -/
module

public import proofs.«01_k».proof.Proof.KernelOut
public import Idealize.ShloMosaic.Lib.StableHlo.RunRead
public import Idealize.ShloMosaic.Lib.StableHlo.RunClose
public import Idealize.ShloMosaic.Lib.Routing.Ops
public import Idealize.ShloMosaic.Lib.Pointwise.IndexBridge

@[expose] public section

set_option maxRecDepth 16384

noncomputable section

namespace Cert.KernelIdeal.Match

open Idealize.ShloMosaic Idealize.ShloMosaic.TcCoe Idealize.SL.Sem Cert.KernelIdeal Cert.KernelIdeal.Gen
open Idealize.ShloMosaic.Pipeline (Dat)

variable {F : FTy → Type} [FloatOps F] [Named F]
variable (m : (ℓ : Loc nD τ sig) → Buf (Elt F) ℓ) (ρ : Dev nD → PrngReg)

/-- The logits reach the region as launched. -/
theorem regLogits_eq (c : Dev nD) : regLogits m c = m ((c : Thread nD τ).loc main_arg0) := V_main_arg0 m c

/-- The boxes reach the region with their last two axes exchanged. -/
theorem regBoxes_eq (c : Dev nD) : regBoxes m c
    = transpose S8x4x900 [0, 2, 1] (m ((c : Thread nD τ).loc main_arg1) : Vec F S8x900x4 .f32) transposes_S8x900x4_S8x4x900_0_2_1 := by
  unfold regBoxes V V0
  simp only [List.flatten_cons, List.flatten_nil, List.append_nil]
  after_reads_simp
  rfl

/-- The target boxes reach the region 25 rows an image, padded to 32. -/
theorem regTargets_eq (c : Dev nD) : regTargets m c
    = pad S8x32x4 ![0, 0, 0] ![0, 7, 0] ![0, 0, 0]
        (shapeCast S8x25x4 (m ((c : Thread nD τ).loc main_arg3) : Vec F S200x4 .f32) shapeCasts_S200x4_S8x25x4)
        (sitofp .f32 (constantI S_ 32 0#32) : Vec F S_ .f32) pads_S8x25x4_S8x32x4_000_070_000 h_S_ := by
  unfold regTargets V V0
  simp only [List.flatten_cons, List.flatten_nil, List.append_nil]
  after_reads_simp
  rfl

/-- The labels reach the region 25 an image, padded to 32. -/
theorem regLabels_eq (c : Dev nD) : regLabels m c
    = broadcastInDim S8x32x1 ![0, 1] bcast_S8x32_S8x32x1_0_1 (pad S8x32 ![0, 0] ![0, 7] ![0, 0]
        (shapeCast S8x25 (m ((c : Thread nD τ).loc main_arg2) : Vec F S200 .i32) shapeCasts_S200_S8x25)
        (constantI S_ 32 0#32 : Vec F S_ .i32) pads_S8x25_S8x32_000_070 h_S_) := by
  unfold regLabels V V0
  simp only [List.flatten_cons, List.flatten_nil, List.append_nil]
  after_reads_simp
  rfl

/-- The host lines after the region, of the region's result: the rows of the 200 columns, transposed, and which entries are not zero. -/
def hostOut (v6 : Vec F S256x900 .i8) : Vec F S900x200 .i1 :=
  cmpi .ne (transpose S900x200 [1, 0] (Host.gather gather_S256x900_S200x1_S200x900_1_0_n_n_0_1_1900 v6
      (broadcastInDim S200x1 ![0] bcast_S200_S200x1_0
        (select (constantI S200 1 0#1) (addi (fun i => lit0 (S200.rowMajor i)) (broadcastInDim S200 ![] bcast_S_S200 (constantI S_ 32 256#32)))
          (fun i => lit0 (S200.rowMajor i))))) transposes_S200x900_S900x200_1_0)
    (broadcastInDim S900x200 ![] bcast_S_S900x200 (constantI S_ 8 0#8))

/-- The table of rows, as the program spells it. -/
theorem row_table : ∀ t : Fin 200, lit0 t = BitVec.ofNat 32 (32 * (t.val / 25) + t.val % 25) := by decide +kernel

/-- Column `t` of the problem is row `32 (t / 25) + t % 25` of the region's result. -/
def padRow (t : Fin 200) : Fin 256 := ⟨32 * (t.val / 25) + t.val % 25, by have := t.isLt; omega⟩

/-- The result at query `q` and column `t`. -/
theorem hostOut_apply (v6 : Vec F S256x900 .i8) (q : Fin 900) (t : Fin 200) :
    hostOut v6 (ix2 q t) = IntOp.cmpi .ne (v6 (ix2 (padRow t) q)) 0#8 := by
  unfold hostOut
  show IntOp.cmpi .ne (transpose S900x200 [1, 0] _ _ (ix2 q t)) (0#8) = _
  congr 1
  pointwise
  rw [ix2_eq_valueIdx, ix2_eq_valueIdx]
  refine Routing.gather_row (nb := 256) (B := 900) (n := 200) gather_S256x900_S200x1_S200x900_1_0_n_n_0_1_1900 rfl rfl rfl rfl rfl v6 _ t q
    (padRow t) ?_ (by decide)
  rw [← ix2_eq_valueIdx]
  pointwise
  exact (congrArg lit0 (Fin.ext (rowMajor_val1 (ix1 t)) : S200.rowMajor (ix1 t) = t)).trans (row_table t)

theorem V0_main_call0_c (c : Dev nD) : V0 m c (Proc.devRef .tc main_call0_c) = (fun i => lit0 (S200.rowMajor i) : Vec F S200 .i32) := by
  unfold V0
  simp only [List.flatten_cons, List.flatten_nil, List.append_nil]
  after_reads_simp
  rfl

theorem V0_main_call0_c_0 (c : Dev nD) : V0 m c (Proc.devRef .tc main_call0_c_0) = (constantI S200 1 0#1 : Vec F S200 .i1) := by
  unfold V0
  simp only [List.flatten_cons, List.flatten_nil, List.append_nil]
  after_reads_simp
  rfl

/-- The program's result over the region's. -/
theorem W_main_v0 (c : Dev nD) : Pipeline.afterTail₀ cfgs (dats m) 0 (V0 m) [hostOps1] c main_v0 = hostOut (regOut m c) := by
  unfold Pipeline.afterTail₀
  simp only [List.flatten_cons, List.flatten_nil, List.append_nil]
  after_reads_simp
  have e1 : Pipeline.withArrays (cfgs 0).spec c (V0 m c) (fun w => (dats m 0 c).arrAt w (cfgs 0).N) (Proc.tc.devRef main_call0_c)
      = (fun i => lit0 (S200.rowMajor i) : Vec F S200 .i32) :=
    (Pipeline.withArrays_of_ne _ c (V0 m c) _ main_call0_c (by exact (by decide : ∀ w, Pipeline.arrRef spec0 w ≠ main_call0_c))).trans
      (V0_main_call0_c m c)
  have e2 : Pipeline.withArrays (cfgs 0).spec c (V0 m c) (fun w => (dats m 0 c).arrAt w (cfgs 0).N) (Proc.tc.devRef main_call0_c_0)
      = (constantI S200 1 0#1 : Vec F S200 .i1) :=
    (Pipeline.withArrays_of_ne _ c (V0 m c) _ main_call0_c_0 (by exact (by decide : ∀ w, Pipeline.arrRef spec0 w ≠ main_call0_c_0))).trans
      (V0_main_call0_c_0 m c)
  have e3 : Pipeline.withArrays (cfgs 0).spec c (V0 m c) (fun w => (dats m 0 c).arrAt w (cfgs 0).N) (Proc.tc.devRef main_call0_v6)
      = regOut m c :=
    (Pipeline.withArrays_arr (cfgs 0).spec (by exact (by decide : Function.Injective (Pipeline.arrRef spec0))) c (V0 m c) _ 4).trans
      (final_out m c)
  rw [e1, e2, e3]
  rfl

/-- THE KERNEL'S RUN: its result over the region's, and its arguments unchanged. -/
theorem run_value : θ_run defs (onTc (τ := τ) (main (F := F))) ⟨m, fun _ => 0, ρ⟩ (fun r => ∀ c : Dev nD,
      r.2.mem ((c.tc : Thread nD τ).loc main_v0) = hostOut (regOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v0 (Pipeline.mem_restRefs_of main_v0 (by decide) (by decide))).trans (W_main_v0 m c), h.2 c⟩)
    (θ_run_and (run_main m ρ) (unchanged m ρ))

end Cert.KernelIdeal.Match

end
-- ==== Proof.Entry.lean ====
/- One entry of the matrix the matching loop starts from, as a function of one query's logits and box and one target's class and box:
   the cost of pairing them, the probability of that cost's negative, and the half-normal quantile of the probability. And the fact
   the loop needs of it: an entry is never `⊥`. -/
module

public import Idealize.ShloMosaic.Lib.Pointwise

@[expose] public section

noncomputable section

namespace Cert.Entry

open Idealize.ShloMosaic

/-! ## The cost -/

/-- The probability a softmax of the logits `x` gives class `l`. -/
def prob (x : Fin 92 → EReal) (l : Fin 92) : EReal :=
  Ideal.div (Ideal.exp (x l - Finset.univ.fold max (Ideal.ofBits .f32 0xFF800000#32) x))
    (∑ k, Ideal.exp (x k - Finset.univ.fold max (Ideal.ofBits .f32 0xFF800000#32) x))

/-- The sum of the distances of two boxes' coordinates. -/
def dist (b t : Fin 4 → EReal) : EReal := ∑ k, FloatOps.absf (F := Ideal) (φ := .f32) (b k - t k)

/-- A box's lower corner along one axis, from its centre and extent. -/
def low (c e : EReal) : EReal := c - Ideal.ofBits .f32 0x3F000000#32 * e

/-- A box's upper corner along one axis. -/
def high (c e : EReal) : EReal := c + Ideal.ofBits .f32 0x3F000000#32 * e

/-- The area of the box from its corners. -/
def area (b : Fin 4 → EReal) : EReal :=
  (high (b 0) (b 2) - low (b 0) (b 2)) * (high (b 1) (b 3) - low (b 1) (b 3))

/-- The area two boxes share. -/
def inter (b t : Fin 4 → EReal) : EReal :=
  max 0 (min (high (b 0) (b 2)) (high (t 0) (t 2)) - max (low (b 0) (b 2)) (low (t 0) (t 2)))
    * max 0 (min (high (b 1) (b 3)) (high (t 1) (t 3)) - max (low (b 1) (b 3)) (low (t 1) (t 3)))

/-- The area two boxes cover. -/
def union (b t : Fin 4 → EReal) : EReal := area b + area t - inter b t

/-- The area of the smallest box around two boxes. -/
def hull (b t : Fin 4 → EReal) : EReal :=
  max 0 (max (high (b 0) (b 2)) (high (t 0) (t 2)) - min (low (b 0) (b 2)) (low (t 0) (t 2)))
    * max 0 (max (high (b 1) (b 3)) (high (t 1) (t 3)) - min (low (b 1) (b 3)) (low (t 1) (t 3)))

/-- The generalized intersection over union. -/
def giou (b t : Fin 4 → EReal) : EReal :=
  Ideal.div (inter b t) (union b t) - Ideal.div (hull b t - union b t) (hull b t)

/-- The cost of pairing a query with a target. -/
def cost (x : Fin 92 → EReal) (b : Fin 4 → EReal) (l : Fin 92) (t : Fin 4 → EReal) : EReal :=
  Ideal.ofBits .f32 0x40A00000#32 * dist b t + -prob x l + Ideal.ofBits .f32 0x40000000#32 * -giou b t

/-! ## The quantile -/

/-- The error function of the standardized negative cost. -/
def central (y : EReal) : EReal :=
  Ideal.erf (Ideal.div (-y - Ideal.ofBits .f32 0xC0B00000#32) (((5 / 2) * Real.sqrt 2 : ℝ) : EReal))

/-- The cumulative probability, from the error function. -/
def cumul (e : EReal) : EReal := Ideal.ofBits .f32 0x3F000000#32 * (1 + e)

/-- The argument of the inverse error function's two pieces. -/
def width (p : EReal) : EReal := -Ideal.log1p (p * -p)

open Classical in
/-- The variable of the piece. -/
def shifted (w : EReal) : EReal :=
  if w < Ideal.ofBits .f32 0x40A00000#32 then w - Ideal.ofBits .f32 0x40200000#32 else Ideal.sqrt w - Ideal.ofBits .f32 0x40400000#32

open Classical in
/-- The polynomial of the inverse error function, by Horner's rule. -/
def horner (w t : EReal) : EReal :=
  let k (a b : BitVec 32) : EReal := if w < Ideal.ofBits .f32 0x40A00000#32 then Ideal.ofBits .f32 a else Ideal.ofBits .f32 b
  k 1069559343#32 1077235582#32 + (k 1048350563#32 1065367259#32 + (k 3146310895#32 1008379262#32 + (k 3131331592#32 3153708503#32
    + (k 962933467#32 1002181243#32 + (k 3063110337#32 3144728039#32 + (k 3060560727#32 984669298#32 + (k 884493110#32 953398635#32
    + k 854680968#32 3109154971#32 * t) * t) * t) * t) * t) * t) * t) * t

open Classical in
/-- The inverse error function. -/
def erfinv (p : EReal) : EReal :=
  if FloatOps.absf (F := Ideal) (φ := .f32) p = 1 then Ideal.ofBits .f32 0x7F800000#32 * p
  else horner (width p) (shifted (width p)) * p

/-- The half-normal quantile of the probability whose error function is `e`. -/
def quantile (e : EReal) : EReal := (((5033165 / 16777216) * Real.sqrt 2 : ℝ) : EReal) * erfinv (cumul e)

/-- ONE ENTRY: the quantile of the pairing's cost. -/
def entry (x : Fin 92 → EReal) (b : Fin 4 → EReal) (l : Fin 92) (t : Fin 4 → EReal) : EReal := quantile (central (cost x b l t))

end Cert.Entry

end
-- ==== Proof.Gauss.lean ====
/- The error function of the extended reals lies between `-1` and `1`: the integral of `exp (-t²)` over `[0, r]` is at most half the root of `π`.
   By substituting `t = √n tan θ` the integral is at most `√n` times that of `cos θ ^ (2 n - 2)` over a quarter turn, whose square is at most
   `π / (4 (n - 1))` because two neighbouring such integrals multiply to a known value. -/
module

public import Idealize.ShloMosaic.Lib.Pointwise
public import Mathlib.MeasureTheory.Integral.IntervalIntegral.Basic
public import Mathlib.Analysis.Calculus.Deriv.MeanValue
public import Mathlib.Analysis.SpecialFunctions.Trigonometric.DerivHyp
public import Mathlib.Analysis.SpecialFunctions.Trigonometric.Arctan
public import Mathlib.Analysis.SpecialFunctions.ExpDeriv
public import Mathlib.Analysis.Complex.RealDeriv

@[expose] public section

noncomputable section

namespace Cert.Gauss

open Idealize.ShloMosaic MeasureTheory

/-- The integral of the bell curve from 0. -/
def bell (r : ℝ) : ℝ := ∫ t in (0 : ℝ)..r, Real.exp (-(t ^ 2))

theorem continuous_curve : Continuous fun t : ℝ => Real.exp (-(t ^ 2)) :=
  Real.continuous_exp.comp (continuous_pow 2).neg

/-- Its derivative is the bell curve. -/
theorem bell_deriv (x : ℝ) : HasDerivAt bell (Real.exp (-(x ^ 2))) x := by
  rw [hasDerivAt_iff_isLittleO, Asymptotics.isLittleO_iff]
  intro ε hε
  obtain ⟨δ, hδ, h⟩ := Metric.continuous_iff.mp continuous_curve x ε hε
  filter_upwards [Metric.ball_mem_nhds x hδ] with y hy
  have hi : ∀ a b : ℝ, IntervalIntegrable (fun t : ℝ => Real.exp (-(t ^ 2))) volume a b :=
    fun a b => continuous_curve.intervalIntegrable a b
  have e : bell y - bell x - (y - x) • Real.exp (-(x ^ 2)) = ∫ t in x..y, (Real.exp (-(t ^ 2)) - Real.exp (-(x ^ 2))) := by
    unfold bell
    rw [intervalIntegral.integral_interval_sub_left (hi 0 y) (hi 0 x), intervalIntegral.integral_sub (hi x y) (by simp),
      intervalIntegral.integral_const]
  rw [e, Real.norm_eq_abs (y - x)]
  refine intervalIntegral.norm_integral_le_of_norm_le_const fun t ht => ?_
  refine (h t ?_).le
  rw [Metric.mem_ball, Real.dist_eq] at hy
  rw [Real.dist_eq]
  rcases Set.mem_uIoc.mp ht with ⟨h1, h2⟩ | ⟨h1, h2⟩
  · rw [abs_of_pos (by linarith)]
    rw [abs_of_pos (by linarith)] at hy
    linarith
  · rw [abs_of_nonpos (by linarith)]
    rw [abs_of_nonpos (by linarith)] at hy
    linarith

/-- Of two functions that start in order and whose slopes are in order, the ends are in order. -/
theorem le_of_slopes {f g f' g' : ℝ → ℝ} {b : ℝ} (hb : 0 ≤ b) (hf : ∀ x ∈ Set.Icc 0 b, HasDerivAt f (f' x) x)
    (hg : ∀ x ∈ Set.Icc 0 b, HasDerivAt g (g' x) x) (h0 : f 0 ≤ g 0) (h : ∀ x ∈ Set.Icc 0 b, f' x ≤ g' x) : f b ≤ g b := by
  have hd : ∀ x ∈ Set.Icc 0 b, HasDerivAt (fun y => g y - f y) (g' x - f' x) x := fun x hx => (hg x hx).sub (hf x hx)
  have := monotoneOn_of_deriv_nonneg (convex_Icc 0 b) (f := fun y => g y - f y)
    (fun x hx => (hd x hx).continuousAt.continuousWithinAt)
    (fun x hx => (hd x (interior_subset hx)).differentiableAt.differentiableWithinAt)
    (fun x hx => by rw [(hd x (interior_subset hx)).deriv]; have := h x (interior_subset hx); linarith)
    (Set.left_mem_Icc.mpr hb) (Set.right_mem_Icc.mpr hb) hb
  simp only at this
  linarith

/-- The slope of the sine, through the hyperbolic sine on the imaginary axis. -/
theorem sin_deriv (x : ℝ) : HasDerivAt Real.sin (Real.cos x) x := by
  have h := (((Complex.hasDerivAt_sinh ((x : ℂ) * Complex.I)).comp (x : ℂ) ((hasDerivAt_id (x : ℂ)).mul_const Complex.I)).const_mul
    (-Complex.I)).real_of_complex
  have e : (fun y : ℝ => (-Complex.I * (Complex.sinh ∘ fun z : ℂ => z * Complex.I) (y : ℂ)).re) = Real.sin := by
    funext y
    simp only [Function.comp, Complex.sinh_mul_I]
    rw [show -Complex.I * (Complex.sin y * Complex.I) = Complex.sin y * -(Complex.I * Complex.I) by ring, Complex.I_mul_I, neg_neg, mul_one]
    exact Complex.sin_ofReal_re y
  have d : (-Complex.I * (Complex.cosh ((x : ℂ) * Complex.I) * (1 * Complex.I))).re = Real.cos x := by
    rw [Complex.cosh_mul_I, show -Complex.I * (Complex.cos x * (1 * Complex.I)) = Complex.cos x * -(Complex.I * Complex.I) by ring,
      Complex.I_mul_I, neg_neg, mul_one]
    exact Complex.cos_ofReal_re x
  rw [← d, ← e]
  exact h

/-- The slope of the cosine. -/
theorem cos_deriv (x : ℝ) : HasDerivAt Real.cos (-Real.sin x) x := by
  have h := (sin_deriv (x + Real.pi / 2)).comp x ((hasDerivAt_id x).add_const (Real.pi / 2))
  have e : (Real.sin ∘ fun y : ℝ => y + Real.pi / 2) = Real.cos := by
    funext y; exact Real.sin_add_pi_div_two y
  have h' := h.congr_deriv ((mul_one _).trans (Real.cos_add_pi_div_two x))
  have e' : (Real.sin ∘ fun y : ℝ => id y + Real.pi / 2) = Real.cos := e
  rwa [e'] at h'

/-- An antiderivative of `cos θ ^ m` that is 0 at 0. -/
def sweep : ℕ → ℝ → ℝ
  | 0, θ => θ
  | 1, θ => Real.sin θ
  | m + 2, θ => Real.cos θ ^ (m + 1) * Real.sin θ / (m + 2) + (m + 1) / (m + 2) * sweep m θ

theorem sweep_zero : ∀ m, sweep m 0 = 0
  | 0 => rfl
  | 1 => Real.sin_zero
  | m + 2 => by simp [sweep, sweep_zero m]

theorem sweep_deriv : ∀ (m : ℕ) (θ : ℝ), HasDerivAt (sweep m) (Real.cos θ ^ m) θ
  | 0, θ => (hasDerivAt_id θ).congr_deriv (pow_zero _).symm
  | 1, θ => (sin_deriv θ).congr_deriv (pow_one _).symm
  | m + 2, θ => by
    have h1 := ((cos_deriv θ).pow (m + 1)).mul (sin_deriv θ)
    have h2 := (h1.div_const ((m : ℝ) + 2)).add ((sweep_deriv m θ).const_mul (((m : ℝ) + 1) / (m + 2)))
    refine (h2.congr_deriv ?_)
    have hm : (m : ℝ) + 2 ≠ 0 := by positivity
    have hs : Real.sin θ ^ 2 = 1 - Real.cos θ ^ 2 := by rw [← Real.sin_sq_add_cos_sq θ]; ring
    rw [Nat.add_sub_cancel]
    push_cast
    field_simp
    rw [hs, Pi.pow_apply]
    ring

/-- The whole quarter turn. -/
def quarter (m : ℕ) : ℝ := sweep m (Real.pi / 2)

theorem quarter_mul : ∀ m : ℕ, quarter m * quarter (m + 1) = Real.pi / (2 * (m + 1))
  | 0 => by simp [quarter, sweep]
  | m + 1 => by
    have e : quarter (m + 2) = (m + 1) / (m + 2) * quarter m := by simp [quarter, sweep]
    have h : quarter (m + 1) * quarter (m + 1 + 1) = (m + 1) / (m + 2) * (quarter m * quarter (m + 1)) := by rw [e]; ring
    rw [h, quarter_mul m]
    have : (m : ℝ) + 1 ≠ 0 := by positivity
    have : (m : ℝ) + 2 ≠ 0 := by positivity
    push_cast
    field_simp
    ring

theorem cos_mem {x b : ℝ} (hb : b ≤ Real.pi / 2) (hx : x ∈ Set.Icc 0 b) : 0 ≤ Real.cos x ∧ Real.cos x ≤ 1 :=
  ⟨Real.cos_nonneg_of_mem_Icc ⟨by linarith [hx.1, Real.pi_pos], by linarith [hx.2]⟩, Real.cos_le_one x⟩

theorem quarter_le (m : ℕ) : quarter (m + 1) ≤ quarter m := by
  refine le_of_slopes (by positivity) (fun x _ => sweep_deriv (m + 1) x) (fun x _ => sweep_deriv m x)
    (by rw [sweep_zero, sweep_zero]) fun x hx => ?_
  obtain ⟨h0, h1⟩ := cos_mem le_rfl hx
  exact pow_le_pow_of_le_one h0 h1 (Nat.le_succ m)

theorem sweep_nonneg (m : ℕ) {b : ℝ} (hb : 0 ≤ b) (hb' : b ≤ Real.pi / 2) : 0 ≤ sweep m b := by
  refine le_of_slopes (f := fun _ => 0) (f' := fun _ => 0) hb (fun x _ => hasDerivAt_const x 0) (fun x _ => sweep_deriv m x)
    (by rw [sweep_zero]) fun x hx => pow_nonneg (cos_mem hb' hx).1 m

theorem sweep_le_quarter (m : ℕ) {b : ℝ} (hb : 0 ≤ b) (hb' : b ≤ Real.pi / 2) : sweep m b ≤ quarter m := by
  have := monotoneOn_of_deriv_nonneg (convex_Icc 0 (Real.pi / 2)) (f := sweep m)
    (fun x _ => (sweep_deriv m x).continuousAt.continuousWithinAt)
    (fun x _ => (sweep_deriv m x).differentiableAt.differentiableWithinAt)
    (fun x hx => by rw [(sweep_deriv m x).deriv]; exact pow_nonneg (cos_mem le_rfl (interior_subset hx)).1 m)
  exact this ⟨hb, hb'⟩ (Set.right_mem_Icc.mpr (by positivity)) hb'

theorem quarter_sq (m : ℕ) : quarter (m + 1) ^ 2 ≤ Real.pi / (2 * (m + 1)) := by
  rw [← quarter_mul m, sq]
  exact mul_le_mul_of_nonneg_right (quarter_le m) (sweep_nonneg _ (by positivity) le_rfl)

/-- The integral after the substitution. -/
theorem bell_tan (k : ℕ) {b : ℝ} (hb : 0 ≤ b) (hb' : b < Real.pi / 2) :
    bell (Real.sqrt (k + 2) * (Real.sin b / Real.cos b)) ≤ Real.sqrt (k + 2) * sweep (2 * k + 2) b := by
  have hc : ∀ x ∈ Set.Icc 0 b, 0 < Real.cos x := fun x hx =>
    Real.cos_pos_of_mem_Ioo ⟨by linarith [hx.1, Real.pi_pos], by linarith [hx.2]⟩
  refine le_of_slopes (f := fun θ => bell (Real.sqrt (k + 2) * (Real.sin θ / Real.cos θ))) (g := fun θ => Real.sqrt (k + 2) * sweep (2 * k + 2) θ) hb
    (fun x hx => (bell_deriv _).comp x ((((sin_deriv x).div (cos_deriv x) (hc x hx).ne')).const_mul _))
    (fun x _ => (sweep_deriv _ x).const_mul _) (by simp [sweep_zero, bell]) fun x hx => ?_
  have hx0 := hc x hx
  have e1 : Real.cos x * Real.cos x - Real.sin x * -Real.sin x = 1 := by
    have := Real.sin_sq_add_cos_sq x; nlinarith
  have e2 : (Real.sqrt (k + 2) * (Real.sin x / Real.cos x)) ^ 2 = (k + 2 : ℕ) * (Real.sin x / Real.cos x) ^ 2 := by
    rw [mul_pow, Real.sq_sqrt (by positivity)]; push_cast; ring
  rw [e1, e2]
  have e3 : Real.exp (-(Real.sin x / Real.cos x) ^ 2) ≤ Real.cos x ^ 2 := by
    have h1 := Real.add_one_le_exp ((Real.sin x / Real.cos x) ^ 2)
    have h2 : (Real.sin x / Real.cos x) ^ 2 + 1 = (Real.cos x ^ 2)⁻¹ := by
      have := Real.sin_sq_add_cos_sq x
      field_simp
      linarith
    rw [h2] at h1
    rw [Real.exp_neg]
    exact inv_le_of_inv_le₀ (by positivity) h1
  have e4 : Real.exp (-(((k + 2 : ℕ) : ℝ) * (Real.sin x / Real.cos x) ^ 2)) ≤ (Real.cos x ^ 2) ^ (k + 2) := by
    rw [← mul_neg, Real.exp_nat_mul]
    exact pow_le_pow_left₀ (Real.exp_pos _).le e3 _
  have e5 : (Real.cos x ^ 2) ^ (k + 2) = Real.cos x ^ (2 * k + 2) * Real.cos x ^ 2 := by ring
  rw [e5] at e4
  have hs : 0 ≤ Real.sqrt ((k : ℝ) + 2) := Real.sqrt_nonneg _
  calc _ ≤ (Real.cos x ^ (2 * k + 2) * Real.cos x ^ 2) * (Real.sqrt (k + 2) * (1 / Real.cos x ^ 2)) :=
        mul_le_mul_of_nonneg_right e4 (by positivity)
    _ = _ := by field_simp

theorem bell_nonneg {r : ℝ} (hr : 0 ≤ r) : 0 ≤ bell r :=
  le_of_slopes (f := fun _ => 0) (f' := fun _ => 0) hr (fun x _ => hasDerivAt_const x 0) (fun x _ => bell_deriv x)
    (by simp [bell]) fun x _ => (Real.exp_pos _).le

theorem bell_sq {r : ℝ} (hr : 0 ≤ r) (k : ℕ) : bell r ^ 2 ≤ Real.pi / 4 * (1 + 1 / ((k : ℝ) + 1)) := by
  have hs : 0 < Real.sqrt ((k : ℝ) + 2) := Real.sqrt_pos.mpr (by positivity)
  have hb : 0 ≤ Real.arctan (r / Real.sqrt (k + 2)) := Real.arctan_nonneg.mpr (by positivity)
  have hb' := Real.arctan_lt_pi_div_two (r / Real.sqrt (k + 2))
  have h := bell_tan k hb hb'
  rw [← Real.tan_eq_sin_div_cos, Real.tan_arctan, mul_div_cancel₀ _ hs.ne'] at h
  have h2 := h.trans (mul_le_mul_of_nonneg_left (sweep_le_quarter (2 * k + 2) hb hb'.le) hs.le)
  have h3 := pow_le_pow_left₀ (bell_nonneg hr) h2 2
  rw [mul_pow, Real.sq_sqrt (by positivity)] at h3
  have h4 := mul_le_mul_of_nonneg_left (quarter_sq (2 * k + 1)) (show (0 : ℝ) ≤ (k : ℝ) + 2 by positivity)
  refine (h3.trans h4).trans (le_of_eq ?_)
  push_cast
  field_simp
  ring

/-- The integral is at most half the root of `π`. -/
theorem bell_le {r : ℝ} (hr : 0 ≤ r) : bell r ≤ Real.sqrt Real.pi / 2 := by
  have hp := Real.pi_pos
  have h : bell r ^ 2 ≤ Real.pi / 4 := by
    refine le_of_forall_pos_le_add fun ε hε => ?_
    obtain ⟨k, hk⟩ := exists_nat_one_div_lt (show 0 < ε / (Real.pi / 4) by positivity)
    have := bell_sq hr k
    rw [lt_div_iff₀ (by positivity)] at hk
    linarith
  refine le_of_sq_le_sq ?_ (by positivity)
  rw [div_pow, Real.sq_sqrt hp.le]
  linarith

/-- THE BOUND: the error function's values are reals between `-1` and `1`. -/
theorem erf_mem (z : EReal) : ∃ e : ℝ, Ideal.erf z = e ∧ -1 ≤ e ∧ e ≤ 1 := by
  have key : ∀ r : ℝ, 0 ≤ r → ∃ e : ℝ, Ideal.erf r = e ∧ 0 ≤ e ∧ e ≤ 1 := fun r hr => by
    have hp : 0 < Real.sqrt Real.pi := Real.sqrt_pos.mpr Real.pi_pos
    refine ⟨2 / Real.sqrt Real.pi * bell r, rfl, mul_nonneg (by positivity) (bell_nonneg hr), ?_⟩
    calc _ ≤ 2 / Real.sqrt Real.pi * (Real.sqrt Real.pi / 2) := mul_le_mul_of_nonneg_left (bell_le hr) (by positivity)
      _ = 1 := by field_simp
  induction z with
  | bot => exact ⟨-1, rfl, le_refl _, by norm_num⟩
  | top => exact ⟨1, rfl, by norm_num, le_refl _⟩
  | coe r =>
    rcases le_total 0 r with h | h
    · obtain ⟨e, h1, h2, h3⟩ := key r h
      exact ⟨e, h1, by linarith, h3⟩
    · obtain ⟨e, h1, h2, h3⟩ := key (-r) (by linarith)
      refine ⟨-e, ?_, by linarith, by linarith⟩
      have := Ideal.erf_neg (r : EReal)
      rw [EReal.coe_neg] at h1
      rw [h1] at this
      rw [EReal.coe_neg, this, neg_neg]

end Cert.Gauss

end
-- ==== Proof.EntryFacts.lean ====
/- The constants of the two programs as extended reals, and that an entry of the matrix is never `⊥`. -/
module

public import proofs.«01_k».proof.Proof.Entry
public import proofs.«01_k».proof.Proof.Gauss

@[expose] public section

noncomputable section

namespace Cert.Entry

open Idealize.ShloMosaic

/-! ## Constants -/

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem five_halves_eq : Ideal.ofBits .f32 0x40200000#32 = ((5 / 2 : ℝ) : EReal) := by
  simp [Ideal.ofBits, Ideal.ieee, -EReal.coe_mul]; norm_num

theorem three_tenths_eq : Ideal.ofBits .f32 0x3E99999A#32 = ((5033165 / 16777216 : ℝ) : EReal) := by
  simp [Ideal.ofBits, Ideal.ieee, -EReal.coe_mul]; norm_num

theorem hundred_eq : Ideal.ofBits .f32 0x42C80000#32 = ((100 : ℝ) : EReal) := by
  simp [Ideal.ofBits, Ideal.ieee, -EReal.coe_mul]; norm_num

theorem top_eq : Ideal.ofBits .f32 0x7F800000#32 = (⊤ : EReal) := by
  simp [Ideal.ofBits, Ideal.ieee]

theorem bot_eq : Ideal.ofBits .f32 0xFF800000#32 = (⊥ : EReal) := by
  simp [Ideal.ofBits, Ideal.ieee]

/-- The scale of the normal, as the reference computes it. -/
theorem cdf_scale_eq : Ideal.ofBits .f32 0x40200000#32 * Ideal.sqrt (Ideal.ofBits .f32 0x40000000#32)
    = (((5 / 2) * Real.sqrt 2 : ℝ) : EReal) := by
  rw [two_eq, five_halves_eq, Ideal.sqrt_coe, if_neg (by norm_num : ¬(2 : ℝ) < 0), EReal.coe_mul]

/-- The scale of the half-normal, as the reference computes it. -/
theorem icdf_scale_eq : Ideal.ofBits .f32 0x3E99999A#32 * Ideal.sqrt (Ideal.ofBits .f32 0x40000000#32)
    = (((5033165 / 16777216) * Real.sqrt 2 : ℝ) : EReal) := by
  rw [two_eq, three_tenths_eq, Ideal.sqrt_coe, if_neg (by norm_num : ¬(2 : ℝ) < 0), EReal.coe_mul]

/-! ## Entries that are reals -/

/-- The value is a real. -/
def IsReal (x : EReal) : Prop := ∃ r : ℝ, x = r

theorem IsReal.coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.ite {c : Prop} [Decidable c] {x y : EReal} (hx : IsReal x) (hy : IsReal y) : IsReal (if c then x else y) := by
  split
  · exact hx
  · exact hy

theorem IsReal.ne_bot {x : EReal} : IsReal x → x ≠ ⊥
  | ⟨a, ha⟩ => ha ▸ EReal.coe_ne_bot a

/-- A single-precision pattern whose exponent is not all ones denotes a real. -/
theorem IsReal.ofBits (b : BitVec 32) (h : (b.extractLsb' 23 8).toNat ≠ 255) : IsReal (Ideal.ofBits .f32 b) := by
  unfold Ideal.ofBits Ideal.ieee
  dsimp only
  rw [if_neg (show ¬(BitVec.extractLsb' 23 8 b).toNat = 2 ^ 8 - 1 from h)]
  split
  · exact IsReal.coe _
  · exact IsReal.coe _

/-- The variable of the polynomial's piece is a real when the argument is a nonnegative one. -/
theorem shifted_real {w : EReal} (hw : ∃ r : ℝ, w = r ∧ 0 ≤ r) : IsReal (shifted w) := by
  obtain ⟨r, rfl, hr⟩ := hw
  refine IsReal.ite (IsReal.sub (IsReal.coe r) (IsReal.ofBits _ (by decide))) (IsReal.sub ?_ (IsReal.ofBits _ (by decide)))
  rw [Ideal.sqrt_coe, if_neg (not_lt.mpr hr)]
  exact IsReal.coe _

/-- The polynomial of a real is a real. -/
theorem horner_real (w : EReal) {t : EReal} (ht : IsReal t) : IsReal (horner w t) := by
  have k : ∀ a b : BitVec 32, (a.extractLsb' 23 8).toNat ≠ 255 → (b.extractLsb' 23 8).toNat ≠ 255 →
      ∀ (c : Prop) [Decidable c], IsReal (if c then Ideal.ofBits .f32 a else Ideal.ofBits .f32 b) :=
    fun a b ha hb c _ => IsReal.ite (IsReal.ofBits a ha) (IsReal.ofBits b hb)
  unfold horner
  dsimp only
  refine (k _ _ ?_ ?_ _).add (IsReal.mul ((k _ _ ?_ ?_ _).add (IsReal.mul ((k _ _ ?_ ?_ _).add (IsReal.mul ((k _ _ ?_ ?_ _).add
    (IsReal.mul ((k _ _ ?_ ?_ _).add (IsReal.mul ((k _ _ ?_ ?_ _).add (IsReal.mul ((k _ _ ?_ ?_ _).add (IsReal.mul ((k _ _ ?_ ?_ _).add
    ((k _ _ ?_ ?_ _).mul ht)) ht)) ht)) ht)) ht)) ht)) ht)) ht) <;> decide

/-- The inverse error function of a probability is not `⊥`. -/
theorem erfinv_ne_bot {p : ℝ} (h0 : 0 ≤ p) (h1 : p ≤ 1) : erfinv p = ⊤ ∨ IsReal (erfinv p) := by
  have ha : FloatOps.absf (F := Ideal) (φ := .f32) (p : EReal) = (p : EReal) := by
    show max (p : EReal) (-(p : EReal)) = p
    rw [← EReal.coe_neg]
    exact max_eq_left (EReal.coe_le_coe_iff.mpr (by linarith))
  unfold erfinv
  rw [ha]
  by_cases h : (p : EReal) = 1
  · left
    rw [if_pos h, h, top_eq, mul_one]
  · right
    rw [if_neg h]
    have hp : p < 1 := lt_of_le_of_ne h1 fun e => h (by rw [e, EReal.coe_one])
    have hpos : 0 < 1 - p * p := by nlinarith
    have hw : width (p : EReal) = ((-Real.log (1 - p * p) : ℝ) : EReal) := by
      unfold width Ideal.log1p
      have e : (1 : EReal) + (p : EReal) * -(p : EReal) = ((1 - p * p : ℝ) : EReal) := by
        rw [← EReal.coe_neg, ← EReal.coe_mul, ← EReal.coe_one, ← EReal.coe_add]
        congr 1
        ring
      rw [e, Ideal.log_coe, if_neg (not_le.mpr hpos), EReal.coe_neg]
    refine IsReal.mul (horner_real _ (shifted_real ⟨_, hw, ?_⟩)) (IsReal.coe p)
    have := Real.log_nonpos hpos.le (by nlinarith : 1 - p * p ≤ 1)
    linarith

/-- The quantile of any error function value is not `⊥`. -/
theorem quantile_ne_bot (z : EReal) : quantile (Ideal.erf z) ≠ ⊥ := by
  obtain ⟨e, he, h1, h2⟩ := Gauss.erf_mem z
  have hs : (0 : ℝ) < (5033165 / 16777216) * Real.sqrt 2 := by positivity
  have hc : cumul (Ideal.erf z) = ((1 / 2 * (1 + e) : ℝ) : EReal) := by
    unfold cumul
    rw [he, half_eq, EReal.coe_mul, EReal.coe_add, EReal.coe_one]
  unfold quantile
  rw [hc]
  rcases erfinv_ne_bot (p := 1 / 2 * (1 + e)) (by linarith) (by linarith) with h | h
  · rw [h, EReal.coe_mul_top_of_pos hs]
    exact top_ne_bot
  · exact ((IsReal.coe _).mul h).ne_bot

/-- NO ENTRY IS `⊥`. -/
theorem entry_ne_bot (x : Fin 92 → EReal) (b : Fin 4 → EReal) (l : Fin 92) (t : Fin 4 → EReal) : entry x b l t ≠ ⊥ :=
  quantile_ne_bot _

end Cert.Entry

end
-- ==== Proof.KernelEntry.lean ====
/- The kernel's starting buffer, entry by entry: row `32 (t / 25) + t % 25`, query `q` holds the entry of query `q` of image `t / 25` and target `t`. -/
module

public import proofs.«01_k».proof.Proof.KernelHost
public import proofs.«01_k».proof.Proof.EntryFacts

@[expose] public section

set_option maxRecDepth 16384

noncomputable section

namespace Cert.KernelIdeal.Match

open Idealize.ShloMosaic Idealize.ShloMosaic.TcCoe Idealize.SL.Sem Cert.KernelIdeal Cert.KernelIdeal.Gen

theorem cdf_scale_named : Named.named (F := Ideal) Cert.KernelIdeal.κ "cdf_scale" (φ := .f32) 0x40624630#32
    = (((5 / 2) * Real.sqrt 2 : ℝ) : EReal) := IdealRules.named_const.ideal_named_scalar _ _ _ _ rfl

theorem icdf_scale_named : Named.named (F := Ideal) Cert.KernelIdeal.κ "icdf_scale" (φ := .f32) 0x3ED93924#32
    = (((5033165 / 16777216) * Real.sqrt 2 : ℝ) : EReal) := IdealRules.named_const.ideal_named_scalar _ _ _ _ rfl

theorem neg_inf_named : Named.named (F := Ideal) Cert.KernelIdeal.κ "neg_inf" (φ := .f32) 0xFF61B1E6#32
    = (⊥ : EReal) := IdealRules.named_const.ideal_named_scalar _ _ _ _ rfl

/-- A word's match with a class number, as a number. -/
theorem onehot (l x : Fin 92) : FloatOps.sitofp (F := Ideal) .f32
    (BitVec.setWidth 32 (IntOp.cmpi .eq (BitVec.ofNat 32 l.val) (BitVec.ofNat 32 x.val))) = if x = l then (1 : EReal) else 0 := by
  by_cases h : x = l
  · subst h
    rw [if_pos rfl]
    have e : IntOp.cmpi .eq (BitVec.ofNat 32 x.val) (BitVec.ofNat 32 x.val) = 1#1 := by simp [IntOp.cmpi]
    rw [e]
    show (((1#32).toInt : ℝ) : EReal) = 1
    norm_num
  · rw [if_neg h]
    have hne : BitVec.ofNat 32 l.val ≠ BitVec.ofNat 32 x.val := fun e => h (Fin.ext (by
      have := congrArg BitVec.toNat e
      simp only [BitVec.toNat_ofNat] at this
      have := x.isLt; have := l.isLt
      omega))
    have e : IntOp.cmpi .eq (BitVec.ofNat 32 l.val) (BitVec.ofNat 32 x.val) = 0#1 := by
      show BitVec.ofBool (BitVec.ofNat 32 l.val == BitVec.ofNat 32 x.val) = 0#1
      rw [beq_false_of_ne hne]
      rfl
    rw [e]
    show (((0#32).toInt : ℝ) : EReal) = 0
    norm_num

/-- The class probability of a row whose label is the class `l`. -/
theorem prob_apply (v0 : Vec Ideal S1x900x92 .f32) (v11 : Vec Ideal S1x32x1 .i32) (j : Fin 32) (q : Fin 900) (l : Fin 92)
    (hl : v11 (ix3 0 j 0) = BitVec.ofNat 32 l.val) : k0_pay11 v0 v11 (ix2 j q) = Entry.prob (fun x => v0 (ix3 0 q x)) l := by
  pointwise [k0_pay11]
  rw [hl, Finset.sum_eq_single l]
  · rw [onehot, if_pos rfl, one_mul]
    rfl
  · intro x _ hx
    rw [onehot, if_neg hx, zero_mul]
  · exact fun h => absurd (Finset.mem_univ l) h

/-- The error function of a row whose class probability is that of the class `l`. -/
theorem boxArg_apply (v19 : Vec Ideal S1x4x900 .f32) (v25 : Vec Ideal S1x32x4 .f32) (v18 : FVec Ideal S32x900 .f32) (j : Fin 32) (q : Fin 900)
    (x : Fin 92 → EReal) (l : Fin 92) (h : v18 (ix2 j q) = Entry.prob x l) :
    boxArg v19 v25 v18 (ix2 j q)
      = Entry.central (Entry.cost x (fun k => v19 (ix3 0 k q)) l (fun k => v25 (ix3 0 j k))) := by
  unfold boxArg
  pointwise [k0_pay12, k0_pay13, k0_pay14, k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36]
  rw [h, cdf_scale_named]
  simp only [zero_sub]
  simp only [Entry.central, Entry.cost, Entry.giou, Entry.dist, Entry.hull, Entry.union, Entry.inter, Entry.area, Entry.low, Entry.high, Fin.sum_univ_four]
  rfl

/-- The quantile. -/
theorem quant_apply (v : FVec Ideal S32x900 .f32) (j : Fin 32) (q : Fin 900) :
    quant v (ix2 j q) = Entry.quantile (v (ix2 j q)) := by
  unfold quant
  pointwise [k0_pay37, k0_pay38, k0_pay39, k0_pay40, k0_pay41, k0_pay42]
  rw [icdf_scale_named]
  simp only [zero_sub]
  simp only [Entry.quantile, Entry.erfinv, Entry.horner, Entry.shifted, Entry.width, Entry.cumul]
  rfl

/-- One row of one image. -/
theorem imgBlock_apply (v0 : Vec Ideal S1x900x92 .f32) (v11 : Vec Ideal S1x32x1 .i32) (v19 : Vec Ideal S1x4x900 .f32) (v25 : Vec Ideal S1x32x4 .f32)
    (j : Fin 32) (q : Fin 900) (l : Fin 92) (hl : v11 (ix3 0 j 0) = BitVec.ofNat 32 l.val) :
    imgBlock v0 v11 v19 v25 (ix2 j q)
      = Entry.entry (fun x => v0 (ix3 0 q x)) (fun k => v19 (ix3 0 k q)) l (fun k => v25 (ix3 0 j k)) := by
  unfold imgBlock Entry.entry
  rw [quant_apply, boxArg_apply _ _ _ j q _ l (prob_apply v0 v11 j q l hl)]

/-- The entry of query `q` of image `b` and target `t`, of the program's arguments. -/
def pairing (a0 : Vec Ideal S8x900x92 .f32) (a1 : Vec Ideal S8x900x4 .f32) (a3 : Vec Ideal S200x4 .f32) (l : Fin 200 → Fin 92) (b : Fin 8) (q : Fin 900) (t : Fin 200) :
    EReal := Entry.entry (fun x => a0 (ix3 b q x)) (fun k => a1 (ix3 b q k)) (l t) (fun k => a3 (ix2 t k))

/-- The image of target `t`. -/
def imageOf (t : Fin 200) : Fin 8 := ⟨t.val / 25, by have := t.isLt; omega⟩

/-- The target of image `t / 25` and row `t % 25` is target `t`. -/
theorem targets_apply (a3 : Vec Ideal S200x4 .f32) (z : Vec Ideal S_ .f32) (t : Fin 200) (k : Fin 4) :
    pad S8x32x4 ![0, 0, 0] ![0, 7, 0] ![0, 0, 0] (shapeCast S8x25x4 a3 shapeCasts_S200x4_S8x25x4) z pads_S8x25x4_S8x32x4_000_070_000 h_S_
      (ix3 (imageOf t) ⟨t.val % 25, by omega⟩ k) = a3 (ix2 t k) := by
  pointwise
  rw [dif_pos (Nat.mod_lt _ (by decide))]
  exact congrArg (fun u => a3 (ix2 u k)) (Fin.ext (Nat.div_add_mod' t.val 25))

/-- The label of image `t / 25` and row `t % 25` is label `t`. -/
theorem labels_apply (a2 : Vec Ideal S200 .i32) (z : Vec Ideal S_ .i32) (t : Fin 200) :
    broadcastInDim S8x32x1 ![0, 1] bcast_S8x32_S8x32x1_0_1 (pad S8x32 ![0, 0] ![0, 7] ![0, 0]
        (shapeCast S8x25 a2 shapeCasts_S200_S8x25) z pads_S8x25_S8x32_000_070 h_S_)
      (ix3 (imageOf t) ⟨t.val % 25, by omega⟩ 0) = a2 (ix1 t) := by
  pointwise
  rw [dif_pos (Nat.mod_lt _ (by decide))]
  exact congrArg (fun u => a2 (ix1 u)) (Fin.ext (Nat.div_add_mod' t.val 25))

/-- The boxes with their last two axes exchanged. -/
theorem boxes_apply (a1 : Vec Ideal S8x900x4 .f32) (b : Fin 8) (q : Fin 900) (k : Fin 4) :
    transpose S8x4x900 [0, 2, 1] a1 transposes_S8x900x4_S8x4x900_0_2_1 (ix3 b k q) = a1 (ix3 b q k) := by
  pointwise

variable (m : (ℓ : Loc nD τ sig) → Buf (Elt Ideal) ℓ)

/-- THE STARTING BUFFER at row `32 (t / 25) + t % 25` and query `q`. -/
theorem start_apply (c : Dev nD) (l : Fin 200 → Fin 92)
    (hl : ∀ t, (m ((c : Thread nD τ).loc main_arg2) : Vec Ideal S200 .i32) (ix1 t) = BitVec.ofNat 32 (l t).val) (q : Fin 900) (t : Fin 200) :
    start (regLogits m c) (regBoxes m c) (regTargets m c) (regLabels m c) (ix2 (padRow t) q)
      = pairing (m ((c : Thread nD τ).loc main_arg0)) (m ((c : Thread nD τ).loc main_arg1)) (m ((c : Thread nD τ).loc main_arg3)) l (imageOf t) q t := by
  have hb : (padRow t).val / 32 = t.val / 25 := by unfold padRow; have := t.isLt; dsimp only; omega
  have hj : (padRow t).val % 32 = t.val % 25 := by unfold padRow; have := t.isLt; dsimp only; omega
  have hj' : t.val % 25 < 32 := by omega
  have e : start (regLogits m c) (regBoxes m c) (regTargets m c) (regLabels m c) (ix2 (padRow t) q)
      = imgBlock (img (regLogits m c) (imageOf t)) (img (regLabels m c) (imageOf t)) (img (regBoxes m c) (imageOf t))
          (img (regTargets m c) (imageOf t)) (ix2 ⟨t.val % 25, hj'⟩ q) := by
    unfold start imageOf
    simp only [ix2, hb, hj]
  have hl' : img (regLabels m c) (imageOf t) (ix3 0 ⟨t.val % 25, hj'⟩ 0) = BitVec.ofNat 32 (l t).val := by
    unfold img
    rw [regLabels_eq, ← hl]
    exact labels_apply _ _ t
  rw [e, imgBlock_apply _ _ _ _ ⟨t.val % 25, hj'⟩ q (l t) hl']
  unfold pairing img
  rw [regLogits_eq, regBoxes_eq, regTargets_eq]
  exact congr (congrArg (fun f g => Entry.entry _ f (l t) g) (funext fun k => boxes_apply _ (imageOf t) q k))
    (funext fun k => targets_apply _ _ t k)

end Cert.KernelIdeal.Match

end
-- ==== Proof.Greedy.lean ====
/- One pick of the greedy matching, on a table of extended reals: the column with the largest gap between its two best entries, the best row of that column, and the table after the pick. -/
module

public import proofs.«01_k».proof.Proof.EntryFacts
public import Idealize.ShloMosaic.Lib.SortNet.Extract
public import Idealize.ShloMosaic.Lib.StableHlo.Predicate

@[expose] public section

set_option maxRecDepth 16384

noncomputable section

namespace Cert.Greedy

open Idealize.ShloMosaic

variable {n : ℕ}

/-- Position `i` is the first one where `f` attains its largest value. -/
def IsFirst (f : Fin n → EReal) (i : Fin n) : Prop := (∀ j, f j ≤ f i) ∧ ∀ j, f j = f i → i ≤ j

/-- Every table with a position has a first largest one. -/
theorem exists_first [NeZero n] (f : Fin n → EReal) : ∃ i, IsFirst f i := by
  classical
  obtain ⟨k, hk⟩ := Finite.exists_max f
  let S : Finset (Fin n) := Finset.univ.filter fun j => f j = f k
  have hS : S.Nonempty := ⟨k, by simp [S]⟩
  have hm := S.min'_mem hS
  have he : f (S.min' hS) = f k := (Finset.mem_filter.mp hm).2
  refine ⟨S.min' hS, fun j => by rw [he]; exact hk j, fun j hj => S.min'_le j ?_⟩
  exact Finset.mem_filter.mpr ⟨Finset.mem_univ _, hj.trans he⟩

/-- There is only one first largest position. -/
theorem IsFirst.unique {f : Fin n → EReal} {i j : Fin n} (hi : IsFirst f i) (hj : IsFirst f j) : i = j := by
  have e : f i = f j := le_antisymm (hj.1 i) (hi.1 j)
  exact le_antisymm (hi.2 j e.symm) (hj.2 i e)

/-- The first position of the largest value. -/
def first [NeZero n] (f : Fin n → EReal) : Fin n := (exists_first f).choose

theorem first_spec [NeZero n] (f : Fin n → EReal) : IsFirst f (first f) := (exists_first f).choose_spec

/-- A maximum folded from the least value is the value at the first largest position. -/
theorem fold_max_first (f : Fin n → EReal) (i : Fin n) (h : IsFirst f i) :
    Finset.fold max (⊥ : EReal) f Finset.univ = f i :=
  le_antisymm (Finset.fold_max_le _ |>.mpr ⟨bot_le, fun j _ => h.1 j⟩)
    (Finset.le_fold_max _ |>.mpr (Or.inr ⟨i, Finset.mem_univ i, le_rfl⟩))

/-- The least of some words, when one of them is at most every other and at most the starting word. -/
theorem fold_minsi_least {m : ℕ} [Std.Commutative (IntOp.minsi (w := 32))] [Std.Associative (IntOp.minsi (w := 32))]
    (w : Fin m → BitVec 32) (z : BitVec 32) (i : Fin m) (hz : (w i).toInt ≤ z.toInt)
    (h : ∀ j, (w i).toInt ≤ (w j).toInt) : Finset.fold IntOp.minsi z w Finset.univ = w i := by
  apply BitVec.eq_of_toInt_eq
  apply le_antisymm
  · refine (Finset.fold_op_rel_iff_or (r := fun x y : BitVec 32 => y.toInt ≤ x.toInt) ?_).mpr
      (Or.inr ⟨i, Finset.mem_univ i, le_rfl⟩)
    intro x y z
    rw [SortNet.toInt_minsi]
    exact min_le_iff
  · refine (Finset.fold_op_rel_iff_and (r := fun x y : BitVec 32 => x.toInt ≤ y.toInt) ?_).mpr
      ⟨hz, fun j _ => h j⟩
    intro x y z
    rw [SortNet.toInt_minsi]
    exact le_min_iff

/-- The least position word among those marked, where every unmarked one carries a filler beyond all positions. -/
theorem fold_minsi_marked {m : ℕ} [Std.Commutative (IntOp.minsi (w := 32))] [Std.Associative (IntOp.minsi (w := 32))]
    (p : Fin m → Prop) [DecidablePred p] (N : ℕ) (hN : m ≤ N) (hN' : N < 2 ^ 31) (i : Fin m) (hi : p i)
    (hfirst : ∀ j, p j → i ≤ j) (w : Fin m → BitVec 32)
    (hw : ∀ j, w j = if p j then BitVec.ofNat 32 j.val else BitVec.ofNat 32 N) :
    Finset.fold IntOp.minsi 2147483647#32 w Finset.univ = BitVec.ofNat 32 i.val := by
  have hwi : w i = BitVec.ofNat 32 i.val := by rw [hw, if_pos hi]
  have hi' := i.isLt
  have ti : (w i).toInt = (i.val : ℤ) := by rw [hwi, StableHlo.Predicate.toInt_ofNat_small _ (by omega)]
  rw [fold_minsi_least w _ i, hwi]
  · rw [ti]
    have : (2147483647#32).toInt = 2147483647 := by decide
    rw [this]; omega
  · intro j
    have hj' := j.isLt
    rw [ti, hw j]
    by_cases hj : p j
    · rw [if_pos hj, StableHlo.Predicate.toInt_ofNat_small _ (by omega)]
      have := hfirst j hj
      simpa using this
    · rw [if_neg hj, StableHlo.Predicate.toInt_ofNat_small _ (by omega)]
      omega

/-- The least position word where `f` equals its maximum is the first largest position. -/
theorem fold_minsi_first {m : ℕ} [Std.Commutative (IntOp.minsi (w := 32))] [Std.Associative (IntOp.minsi (w := 32))]
    (f : Fin m → EReal) (i : Fin m) (hi : IsFirst f i) (N : ℕ) (hN : m ≤ N) (hN' : N < 2 ^ 31)
    {d : ∀ j, Decidable (f j = Finset.fold max (⊥ : EReal) f Finset.univ)} :
    Finset.fold IntOp.minsi 2147483647#32
      (fun j : Fin m => if f j = Finset.fold max (⊥ : EReal) f Finset.univ then BitVec.ofNat 32 j.val else BitVec.ofNat 32 N)
      Finset.univ = BitVec.ofNat 32 i.val := by
  have e := fold_max_first f i hi
  exact fold_minsi_marked (fun j => f j = Finset.fold max (⊥ : EReal) f Finset.univ) N hN hN' i e.symm
    (fun j hj => hi.2 j (hj.trans e)) _ fun j => rfl

/-- Two words of small numbers are compared as the numbers are. -/
theorem cmpi_eq_small (a b : ℕ) (ha : a < 2 ^ 31) (hb : b < 2 ^ 31) :
    IntOp.cmpi .eq (BitVec.ofNat 32 a) (BitVec.ofNat 32 b) = BitVec.ofBool (decide (a = b)) := by
  show BitVec.ofBool (_ == _) = _
  congr 1
  by_cases h : a = b
  · subst h; simp
  · rw [decide_eq_false h]
    refine beq_false_of_ne fun e => h ?_
    have := congrArg BitVec.toNat e
    simp only [BitVec.toNat_ofNat] at this
    omega

/-- A chosen value, by the truth of what chooses it. -/
theorem select_if {α : Type} (p : Prop) [Decidable p] (x y : α) :
    Scalar.select (BitVec.ofBool (decide p)) x y = if p then x else y := by
  by_cases h : p
  · rw [decide_eq_true h, if_pos h]; rfl
  · rw [decide_eq_false h, if_neg h]; rfl

/-- A fold over the pairs of a position and the one position of a unit axis is the fold over the positions. -/
theorem fold_unit_axis {β : Type} {m : ℕ} (op : β → β → β) [Std.Commutative op] [Std.Associative op] (z : β) (g : Fin m → β) :
    Finset.fold op z (fun x : Fin m × Fin 1 => g x.1) Finset.univ = Finset.fold op z g Finset.univ := by
  have e : (Finset.univ : Finset (Fin m × Fin 1))
      = Finset.univ.map ⟨fun i : Fin m => (i, (0 : Fin 1)), fun a b h => (Prod.mk.inj h).1⟩ := by
    ext ⟨i, k⟩
    simp only [Finset.mem_univ, Finset.mem_map, true_and, true_iff]
    exact ⟨i, Prod.ext rfl (Subsingleton.elim _ _)⟩
  rw [e, Finset.fold_map]
  rfl

/-- `a` and `b` are the largest and the second largest value of `f`, counted with multiplicity. -/
def TopTwo (f : Fin n → EReal) (a b : EReal) : Prop :=
  ∃ i j, i ≠ j ∧ f i = a ∧ f j = b ∧ b ≤ a ∧ ∀ k, k ≠ i → f k ≤ b

/-- The two largest values are determined. -/
theorem TopTwo.unique {f : Fin n → EReal} {a b a' b' : EReal} (h : TopTwo f a b) (h' : TopTwo f a' b') :
    a = a' ∧ b = b' := by
  obtain ⟨i, j, hij, hi, hj, hle, hall⟩ := h
  obtain ⟨i', j', hij', hi', hj', hle', hall'⟩ := h'
  have ub : ∀ k, f k ≤ a := fun k => by
    by_cases hk : k = i
    · rw [hk, hi]
    · exact (hall k hk).trans hle
  have ub' : ∀ k, f k ≤ a' := fun k => by
    by_cases hk : k = i'
    · rw [hk, hi']
    · exact (hall' k hk).trans hle'
  have ea : a = a' := le_antisymm (hi ▸ ub' i) (hi' ▸ ub i')
  refine ⟨ea, ?_⟩
  by_cases hii : i = i'
  · subst hii
    exact le_antisymm (hj ▸ hall' j (Ne.symm hij)) (hj' ▸ hall j' (Ne.symm hij'))
  · have h1 : a' ≤ b := hi' ▸ hall i' (Ne.symm hii)
    have h2 : a ≤ b' := hi ▸ hall' i hii
    exact le_antisymm (hle.trans (ea.le.trans (ea.symm.le.trans h2))) (hle'.trans h1)

/-- The largest value with the first largest position, and the largest of the rest with that position left out. -/
theorem topTwo_masked (hn : 2 ≤ n) (f : Fin n → EReal) (hf : ∀ k, f k ≠ ⊥) (i : Fin n) (hi : IsFirst f i) :
    TopTwo f (f i) (Finset.fold max (⊥ : EReal) (fun k => if k = i then ⊥ else f k) Finset.univ) := by
  classical
  haveI : NeZero n := ⟨by omega⟩
  let g : Fin n → EReal := fun k => if k = i then ⊥ else f k
  have hj := first_spec g
  have hg : ∀ k, k ≠ i → f k ≤ g (first g) := fun k hk => by
    have := hj.1 k
    simpa only [g, if_neg hk] using this
  have hne : first g ≠ i := by
    intro e
    obtain ⟨k, hk⟩ : ∃ k : Fin n, k ≠ i := by
      haveI : Nontrivial (Fin n) := Fin.nontrivial_iff_two_le.mpr hn
      exact exists_ne i
    have h1 := hg k hk
    have h2 : g (first g) = ⊥ := by rw [e]; simp only [g, if_true]
    rw [h2] at h1
    exact hf k (le_bot_iff.mp h1)
  have hgj : g (first g) = f (first g) := by simp only [g, if_neg hne]
  refine ⟨i, first g, Ne.symm hne, rfl, ?_, ?_, ?_⟩
  · rw [← hgj]; exact (fold_max_first g _ hj).symm
  · rw [show Finset.fold max (⊥ : EReal) (fun k => if k = i then ⊥ else f k) Finset.univ = g (first g) from
      fold_max_first g _ hj, hgj]
    exact hi.1 _
  · intro k hk
    rw [show Finset.fold max (⊥ : EReal) (fun k => if k = i then ⊥ else f k) Finset.univ = g (first g) from
      fold_max_first g _ hj]
    exact hg k hk

/-- A column's entries, none above one hundred. -/
def capped (f : Fin n → EReal) : Fin n → EReal := fun q => min (f q) ((100 : ℝ) : EReal)

theorem capped_real (f : Fin n → EReal) (hf : ∀ k, f k ≠ ⊥) (k : Fin n) : ∃ r : ℝ, capped f k = (r : EReal) := by
  have h1 : capped f k ≠ ⊥ := by
    intro h
    rcases min_eq_bot.mp h with h | h
    · exact hf k h
    · exact absurd h (by exact EReal.coe_ne_bot 100)
  have h2 : capped f k ≠ ⊤ := by
    intro h
    have : (⊤ : EReal) ≤ ((100 : ℝ) : EReal) := h ▸ min_le_right _ _
    exact absurd (top_le_iff.mp this) (EReal.coe_ne_top 100)
  exact ⟨(capped f k).toReal, (EReal.coe_toReal h2 h1).symm⟩

/-- How far a column's best capped entry is above its second best. -/
def gap [NeZero n] (f : Fin n → EReal) : EReal :=
  capped f (first (capped f)) -
    Finset.fold max (⊥ : EReal) (fun k => if k = first (capped f) then ⊥ else capped f k) Finset.univ

/-- The gap from any two values that are the largest and the second largest. -/
theorem gap_eq [NeZero n] (hn : 2 ≤ n) (f : Fin n → EReal) (hf : ∀ k, f k ≠ ⊥) (a b : EReal) (h : TopTwo (capped f) a b) :
    gap f = a - b ∧ ∃ r s : ℝ, a = r ∧ b = s ∧ s ≤ r := by
  have hc : ∀ k, capped f k ≠ ⊥ := fun k e => by
    obtain ⟨r, hr⟩ := capped_real f hf k
    exact EReal.coe_ne_bot r (hr ▸ e)
  obtain ⟨ea, eb⟩ := (topTwo_masked hn (capped f) hc _ (first_spec _)).unique h
  refine ⟨?_, ?_⟩
  · unfold gap; rw [ea, eb]
  · obtain ⟨i, j, hij, hi, hj, hle, hall⟩ := h
    obtain ⟨r, hr⟩ := capped_real f hf i
    obtain ⟨s, hs⟩ := capped_real f hf j
    refine ⟨r, s, hi.symm.trans hr, hj.symm.trans hs, ?_⟩
    rw [← hj, ← hi, hr, hs] at hle
    exact EReal.coe_le_coe_iff.mp hle

/-- The gap is the distance of the two largest values, whichever is taken from which. -/
theorem gap_abs [NeZero n] (hn : 2 ≤ n) (f : Fin n → EReal) (hf : ∀ k, f k ≠ ⊥) (a b : EReal) (h : TopTwo (capped f) a b) :
    max (b - a) (-(b - a)) = gap f := by
  obtain ⟨hg, r, s, rfl, rfl, hle⟩ := gap_eq hn f hf a b h
  rw [hg, ← EReal.coe_sub, ← EReal.coe_neg, ← EReal.coe_sub, neg_sub, max_eq_right]
  exact EReal.coe_le_coe_iff.mpr (by linarith)

/-- No gap is negative. -/
theorem gap_nonneg [NeZero n] (hn : 2 ≤ n) (f : Fin n → EReal) (hf : ∀ k, f k ≠ ⊥) : 0 ≤ gap f := by
  have hc : ∀ k, capped f k ≠ ⊥ := fun k e => by
    obtain ⟨r, hr⟩ := capped_real f hf k
    exact EReal.coe_ne_bot r (hr ▸ e)
  obtain ⟨hg, r, s, ha, hb, hle⟩ := gap_eq hn f hf _ _ (topTwo_masked hn (capped f) hc _ (first_spec _))
  rw [hg, ha, hb, ← EReal.coe_sub]
  exact EReal.coe_nonneg.mpr (by linarith)

/-- The table: target `t`'s entry at query `q`. -/
abbrev Grid : Type := Fin 200 → Fin 900 → EReal

/-- The target picked: the first with the largest gap. -/
def pick (M : Grid) : Fin 200 := first fun t => gap (M t)

/-- The query picked for it: the first of its largest entries. -/
def mate (M : Grid) : Fin 900 := first (M (pick M))

/-- What a picked entry becomes. -/
def mark : EReal := Ideal.ofBits .f32 0xB3D6BF95#32

/-- The table after the pick: the picked entry is marked, the rest of the target's column and of the query's row within
    the target's image become zero. -/
def next (M : Grid) : Grid := fun t q =>
  if t = pick M ∧ q = mate M then mark
  else if t = pick M ∨ (t.val / 25 = (pick M).val / 25 ∧ q = mate M) then 0 else M t q

theorem mark_ne_bot : mark ≠ ⊥ := by
  unfold mark
  simp [Ideal.ofBits, Ideal.ieee, -EReal.coe_mul]

/-- A pick leaves no entry without a value. -/
theorem next_ne_bot (M : Grid) (h : ∀ t q, M t q ≠ ⊥) (t : Fin 200) (q : Fin 900) : next M t q ≠ ⊥ := by
  unfold next
  split
  · exact mark_ne_bot
  · split
    · exact EReal.coe_ne_bot 0
    · exact h t q

end Cert.Greedy

end
-- ==== Proof.KernelStep.lean ====
/- One trip of the kernel's loop on its padded and transposed buffer is one greedy pick on the table the buffer holds. -/
module

public import proofs.«01_k».proof.Proof.KernelEntry
public import proofs.«01_k».proof.Proof.Greedy
public import Idealize.ShloMosaic.Lib.Pointwise

@[expose] public section

set_option maxRecDepth 16384

noncomputable section

namespace Cert.KernelIdeal.Match

open Idealize.ShloMosaic Idealize.ShloMosaic.TcCoe Idealize.SL.Sem Cert.KernelIdeal Cert.KernelIdeal.Gen Cert.Greedy
open Cert.Entry (bot_eq hundred_eq)

/-! ## The row words -/

/-- A row is padding when it lies at 25 or beyond within its block of 32. -/
theorem pad_at (r : Fin 256) : padRows (ix2 r 0) = BitVec.ofBool (decide (25 ≤ r.val % 32)) := by
  pointwise [k0_pay288, k0_pay289]
  revert r
  decide +kernel

theorem picked_at (r : Fin 256) (w : BitVec 32) :
    k0_pay8 rowIota w (ix2 r 0) = IntOp.cmpi .eq (BitVec.ofNat 32 r.val) w := by
  pointwise [k0_pay8]

/-- A row's image is its number over 32. -/
theorem image_at (r : Fin 256) : k0_pay9 rowIota (ix2 r 0) = BitVec.ofNat 32 (r.val / 32) := by
  pointwise [k0_pay9]
  revert r
  decide +kernel

/-- No row's quotient has to be corrected downward. -/
theorem floor_at (r : Fin 256) : k0_pay10 rowIota (ix2 r 0) = 0#1 := by
  pointwise [k0_pay10]
  revert r
  decide +kernel

theorem floorDiv_at (r : Fin 256) : floorDiv (BitVec.ofNat 32 r.val) = BitVec.ofNat 32 (r.val / 32) := by
  revert r
  unfold floorDiv
  decide +kernel

theorem rowIota_at (r : Fin 256) : rowIota (ix2 r 0) = BitVec.ofNat 32 r.val := by pointwise

/-- The rows that are not padding are the targets' rows. -/
theorem padRow_of (r : Fin 256) (h : r.val % 32 < 25) : ∃ t, padRow t = r := by
  have hr := r.isLt
  refine ⟨⟨25 * (r.val / 32) + r.val % 32, by omega⟩, Fin.ext ?_⟩
  show 32 * ((25 * (r.val / 32) + r.val % 32) / 25) + (25 * (r.val / 32) + r.val % 32) % 25 = r.val
  omega

theorem padRow_mod (t : Fin 200) : (padRow t).val % 32 = t.val % 25 := by
  show (32 * (t.val / 25) + t.val % 25) % 32 = t.val % 25
  omega

theorem padRow_div (t : Fin 200) : (padRow t).val / 32 = t.val / 25 := by
  show (32 * (t.val / 25) + t.val % 25) / 32 = t.val / 25
  omega

theorem padRow_le (t u : Fin 200) : t ≤ u → padRow t ≤ padRow u := by
  intro h
  have h' : t.val ≤ u.val := h
  show 32 * (t.val / 25) + t.val % 25 ≤ 32 * (u.val / 25) + u.val % 25
  omega

theorem padRow_eq (t u : Fin 200) : (padRow t).val = (padRow u).val ↔ t = u := by
  constructor
  · intro h
    have h' : 32 * (t.val / 25) + t.val % 25 = 32 * (u.val / 25) + u.val % 25 := h
    exact Fin.ext (by omega)
  · rintro rfl; rfl

/-! ## The picks -/

/-- The kernel's gap of one row. -/
theorem gap_row (f : Fin 900 → EReal) [Std.Commutative (IntOp.minsi (w := 32))] [Std.Associative (IntOp.minsi (w := 32))]
    [d : ∀ j, Decidable (min (f j) (Ideal.ofBits .f32 0x42C80000#32) = Finset.fold max (Ideal.ofBits .f32 0xFF800000#32)
      (fun x => min (f x) (Ideal.ofBits .f32 0x42C80000#32)) Finset.univ)] :
    Finset.fold max (Ideal.ofBits .f32 0xFF800000#32) (fun x => min (f x) (Ideal.ofBits .f32 0x42C80000#32)) Finset.univ
      - Finset.fold max (Ideal.ofBits .f32 0xFF800000#32) (fun x : Fin 900 => Scalar.select (IntOp.cmpi .eq (BitVec.ofNat 32 x.val)
          (Finset.fold IntOp.minsi 2147483647#32 (fun y : Fin 900 =>
            if min (f y) (Ideal.ofBits .f32 0x42C80000#32) = Finset.fold max (Ideal.ofBits .f32 0xFF800000#32)
              (fun x => min (f x) (Ideal.ofBits .f32 0x42C80000#32)) Finset.univ then BitVec.ofNat 32 y.val else 900#32) Finset.univ))
          (Named.named (F := Ideal) Cert.KernelIdeal.κ "neg_inf" (φ := .f32) 0xFF61B1E6#32)
          (min (f x) (Ideal.ofBits .f32 0x42C80000#32))) Finset.univ = gap f := by
  revert d
  rw [bot_eq, hundred_eq, neg_inf_named]
  intro d
  have h := first_spec (capped f)
  have e := fold_minsi_first (capped f) _ h 900 le_rfl (by norm_num) (d := d)
  unfold gap
  refine congrArg₂ (· - ·) (fold_max_first (capped f) _ h) ?_
  refine Finset.fold_congr fun x _ => ?_
  refine (congrArg (fun w => Scalar.select (IntOp.cmpi .eq (BitVec.ofNat 32 x.val) w) (⊥ : EReal) (capped f x)) e).trans ?_
  have hx := x.isLt
  have hi := (first (capped f)).isLt
  rw [cmpi_eq_small _ _ (by omega) (by omega), select_if]
  simp only [Fin.ext_iff]

/-- A row's gap, minus one for padding. -/
def rowGap (B : Vec Ideal S256x900 .f32) (r : Fin 256) : EReal :=
  if 25 ≤ r.val % 32 then ((-1 : ℝ) : EReal) else gap fun q => B (ix2 r q)

theorem minus_one_eq : Ideal.ofBits .f32 0xBF800000#32 = ((-1 : ℝ) : EReal) := by
  simp [Ideal.ofBits, Ideal.ieee, -EReal.coe_mul]; norm_num

/-- The row picked is the first with the largest gap. -/
theorem colWord_at (B : Vec Ideal S256x900 .f32) (r : Fin 256) (h : IsFirst (rowGap B) r) :
    colWord B = BitVec.ofNat 32 r.val := by
  pointwise [colWord, k0_pay4]
  simp only [gap_row (fun q => B (ix2 _ q)), pad_at, select_if, minus_one_eq]
  simp only [bot_eq]
  have e := fold_minsi_first (rowGap B) r h 256 le_rfl (by norm_num) (d := fun _ => Classical.propDecidable _)
  rw [← fold_unit_axis] at e
  refine Eq.trans ?_ e
  refine Finset.fold_congr fun x _ => ?_
  have e2 := fold_unit_axis max (⊥ : EReal) (rowGap B)
  unfold rowGap at e2 ⊢
  rw [e2]
  split_ifs <;> rfl

/-- Where a row's largest entry lies first. -/
theorem best_at (B : Vec Ideal S256x900 .f32) (r : Fin 256) (q : Fin 900) (h : IsFirst (fun q => B (ix2 r q)) q) :
    k0_pay3 qryIota B (ix2 r 0) = BitVec.ofNat 32 q.val := by
  pointwise [k0_pay3]
  rw [bot_eq]
  exact fold_minsi_first (fun q => B (ix2 r q)) q h 900 le_rfl (by norm_num)

theorem cmpi_splat (x : IVec S256x1 32) (w : IVec S1x1x1 32) (i : S256x1.Idx) :
    cmpi .eq x (broadcast S256x1 (extractAt ![0, 0, 0] w inpos_S1x1x1_p0_0_0)) i
      = IntOp.cmpi .eq (x i) (extractAt ![0, 0, 0] w inpos_S1x1x1_p0_0_0) := rfl

theorem chosen_at (B : Vec Ideal S256x900 .f32) (r : Fin 256) :
    k0_pay5 rowIota qryIota padRows B (ix2 r 0) = IntOp.cmpi .eq (BitVec.ofNat 32 r.val) (colWord B) := by
  rw [← rowIota_at]
  exact cmpi_splat rowIota (k0_pay4 rowIota qryIota padRows B) _

/-- The query the picked row takes is where its largest entry lies first. -/
theorem rowWord_at (B : Vec Ideal S256x900 .f32) (r : Fin 256) (q : Fin 900) (h : IsFirst (rowGap B) r)
    (hq : IsFirst (fun q => B (ix2 r q)) q) : rowWord B = BitVec.ofNat 32 q.val := by
  pointwise [rowWord, k0_pay7]
  have hr := r.isLt
  have hq' := q.isLt
  let w : Fin 256 → BitVec 32 := fun x => if x = r then k0_pay3 qryIota B (ix2 x 0) else 900#32
  have ew : ∀ x : Fin 256, Scalar.select (k0_pay5 rowIota qryIota padRows B (ix2 x 0)) (k0_pay3 qryIota B (ix2 x 0))
      (k0_pay6 (ix2 x 0)) = w x := fun x => by
    have hx := x.isLt
    rw [chosen_at, colWord_at B r h, cmpi_eq_small _ _ (by omega) (by omega), select_if]
    simp only [w, Fin.ext_iff]
    rfl
  have wr : w r = BitVec.ofNat 32 q.val := by simp only [w, if_true]; exact best_at B r q hq
  simp only [ew]
  refine (fold_unit_axis _ _ w).trans (Eq.trans (fold_minsi_least w _ r ?_ ?_) wr)
  · rw [wr, StableHlo.Predicate.toInt_ofNat_small _ (by omega)]
    have : (2147483647#32).toInt = 2147483647 := by decide
    rw [this]; omega
  · intro j
    by_cases hj : j = r
    · rw [hj]
    · rw [wr, StableHlo.Predicate.toInt_ofNat_small _ (by omega), show w j = 900#32 from if_neg hj,
        StableHlo.Predicate.toInt_ofNat_small _ (by omega)]
      omega

/-! ## The trip -/

/-- The stored buffer, from the words that select in it. -/
theorem stored_at (B : Vec Ideal S256x900 .f32) (w8 : IVec S256x1 1) (w9 : IVec S256x1 32) (w10 : IVec S256x1 1)
    (rw fd : BitVec 32) (r : Fin 256) (q : Fin 900) :
    k0_pay1 qryIota B rw fd w8 w9 w10 1#32 (ix2 r q) =
    Scalar.select (IntOp.andi (w8 (ix2 r 0)) (IntOp.cmpi .eq (BitVec.ofNat 32 q.val) rw)) mark
      (Scalar.select
        (IntOp.ori (w8 (ix2 r 0))
          (IntOp.andi
            (IntOp.cmpi .eq (Scalar.select (w10 (ix2 r 0)) (IntOp.subi (w9 (ix2 r 0)) 1#32) (w9 (ix2 r 0))) fd)
            (IntOp.cmpi .eq (BitVec.ofNat 32 q.val) rw)))
        0 (B (ix2 r q))) := by
  pointwise [k0_pay1]
  rfl

theorem select_and_or {α : Type} (p q s : Prop) [Decidable p] [Decidable q] [Decidable s] (x y z : α) :
    Scalar.select (IntOp.andi (BitVec.ofBool (decide p)) (BitVec.ofBool (decide q))) x
      (Scalar.select (IntOp.ori (BitVec.ofBool (decide p)) (IntOp.andi (BitVec.ofBool (decide s)) (BitVec.ofBool (decide q)))) y z)
    = if p ∧ q then x else if p ∨ (s ∧ q) then y else z := by
  by_cases hp : p <;> by_cases hq : q <;> by_cases hs : s <;> simp only [hp, hq, hs] <;> rfl

/-- One trip at a target's row is one pick, when the buffer's target rows hold a table with no missing value. -/
theorem stepK_at (B : Vec Ideal S256x900 .f32) (M : Grid) (hB : ∀ t q, B (ix2 (padRow t) q) = M t q)
    (hM : ∀ t q, M t q ≠ ⊥) (t : Fin 200) (q : Fin 900) : stepK B (ix2 (padRow t) q) = next M t q := by
  have hgap : ∀ u, rowGap B (padRow u) = gap (M u) := fun u => by
    unfold rowGap
    rw [padRow_mod, if_neg (by omega)]
    exact congrArg gap (funext fun q => hB u q)
  have hp := first_spec fun u => gap (M u)
  have hr : IsFirst (rowGap B) (padRow (pick M)) := by
    have key : ∀ r, (∃ u, padRow u = r) ∨ rowGap B r < rowGap B (padRow (pick M)) := fun r => by
      by_cases h : r.val % 32 < 25
      · exact Or.inl (padRow_of r h)
      · right
        rw [hgap]
        refine lt_of_lt_of_le ?_ (gap_nonneg (by norm_num) _ (hM _))
        unfold rowGap
        rw [if_pos (by omega)]
        exact EReal.coe_neg'.mpr (by norm_num)
    refine ⟨fun r => ?_, fun r e => ?_⟩
    · rcases key r with ⟨u, rfl⟩ | h
      · rw [hgap, hgap]; exact hp.1 u
      · exact h.le
    · rcases key r with ⟨u, rfl⟩ | h
      · rw [hgap, hgap] at e
        exact padRow_le _ _ (hp.2 u e)
      · exact absurd e h.ne
  have hq : IsFirst (fun q => B (ix2 (padRow (pick M)) q)) (mate M) := by
    have : (fun q => B (ix2 (padRow (pick M)) q)) = M (pick M) := funext fun q => hB _ q
    rw [this]
    exact first_spec _
  have h1 := (padRow t).isLt
  have h2 := (padRow (pick M)).isLt
  have h3 := q.isLt
  have h4 := (mate M).isLt
  unfold stepK
  rw [stored_at, picked_at, image_at, floor_at, colWord_at B _ hr, rowWord_at B _ _ hr hq, floorDiv_at, hB]
  rw [show ∀ a b : BitVec 32, Scalar.select 0#1 a b = b from fun _ _ => rfl,
    cmpi_eq_small _ _ (by omega) (by omega), cmpi_eq_small _ _ (by omega) (by omega), cmpi_eq_small _ _ (by omega) (by omega),
    select_and_or]
  unfold next
  simp only [padRow_eq, padRow_div, Fin.ext_iff]

end Cert.KernelIdeal.Match

end
-- ==== Proof.RefGather.lean ====
/- The reference's two gathers, read at an index: the probabilities' columns by the targets' labels, and each target's row of its image. -/
module

public import proofs.«01_k».proof.Proof.Gen.ReferenceIdeal
public import Idealize.ShloMosaic.Lib.Pointwise
public import Idealize.ShloMosaic.Lib.StableHlo.Predicate

@[expose] public section

set_option maxRecDepth 16384

noncomputable section

namespace Cert.ReferenceIdeal.Match

open Idealize.ShloMosaic Cert.ReferenceIdeal Cert.ReferenceIdeal.Gen

/-- An index word that is not negative is its own index: the wrap from the end does not apply. -/
theorem index_self (n : ℕ) (w : BitVec 32) (h : n < 2 ^ 31) :
    Scalar.select (IntOp.cmpi .slt (BitVec.ofNat 32 n) 0#32) w (BitVec.ofNat 32 n) = BitVec.ofNat 32 n := by
  have e : IntOp.cmpi .slt (BitVec.ofNat 32 n) 0#32 = 0#1 := by
    show BitVec.ofBool (BitVec.slt _ _) = 0#1
    rw [BitVec.slt_eq_decide, StableHlo.Predicate.toInt_ofNat_small _ h, decide_eq_false (by simp)]
    rfl
  rw [e]
  rfl

/-- Column `t` of the gathered probabilities is the column whose number the index vector holds for `t`. -/
theorem gather_column {α : Type} (x : S7200x92.Idx → α) (idx : IVec S200x1 32) (n : Fin 7200) (t : Fin 200) (l : Fin 92)
    (hl : idx (ix2 t 0) = BitVec.ofNat 32 l.val) :
    Host.gather gather_S7200x92_S200x1_S7200x200_0_1_n_n_1_1_72001 x idx (ix2 n t) = x (ix2 n l) := by
  unfold Host.gather
  refine congrArg x (funext fun a => Fin.ext ?_)
  have hll := l.isLt
  match a with
  | ⟨0, _⟩ =>
    show GatherDims.start gather_S7200x92_S200x1_S7200x200_0_1_n_n_1_1_72001 (ix2 n t) idx 0 + GatherDims.batchCoord gather_S7200x92_S200x1_S7200x200_0_1_n_n_1_1_72001 (ix2 n t) 0 +
      GatherDims.offCoord gather_S7200x92_S200x1_S7200x200_0_1_n_n_1_1_72001 (ix2 n t) 0 = n.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GatherDims.start gather_S7200x92_S200x1_S7200x200_0_1_n_n_1_1_72001 (ix2 n t) idx 1 + GatherDims.batchCoord gather_S7200x92_S200x1_S7200x200_0_1_n_n_1_1_72001 (ix2 n t) 1 +
      GatherDims.offCoord gather_S7200x92_S200x1_S7200x200_0_1_n_n_1_1_72001 (ix2 n t) 1 = l.val
    rw [GatherDims.batchCoord_eq_zero _ _ _ List.not_mem_nil, GatherDims.offCoord_eq_zero _ _ _ (by decide)]
    unfold GatherDims.start
    rw [dif_pos (by decide)]
    have hsi : ∀ h, GatherDims.siIdx gather_S7200x92_S200x1_S7200x200_0_1_n_n_1_1_72001 (ix2 n t)
        ⟨List.idxOf (1 : Fin 2) gather_S7200x92_S200x1_S7200x200_0_1_n_n_1_1_72001.startIndexMap, h⟩ = ix2 t 0 := by
      intro h
      funext b; refine Fin.ext ?_
      match b with
      | ⟨0, _⟩ => rfl
      | ⟨1, _⟩ => rfl
    rw [hsi, hl, StableHlo.Predicate.toInt_ofNat_small _ (by omega)]
    show min ((l.val : Int)).toNat (92 - 1) + 0 + 0 = l.val
    omega

/-- Row `t` of the gathered rows is the row of the image whose number the first index holds for `t`, at the target the second one holds. -/
theorem gather_image {α : Type} (x : S8x200x900.Idx → α) (idx : IVec S200x2 32) (t : Fin 200) (q : Fin 900) (i : Fin 8) (u : Fin 200)
    (hi : idx (ix2 t 0) = BitVec.ofNat 32 i.val) (hu : idx (ix2 t 1) = BitVec.ofNat 32 u.val) :
    Host.gather gather_S8x200x900_S200x2_S200x900_1_01_n_n_01_1_11900 x idx (ix2 t q) = x (ix3 i u q) := by
  unfold Host.gather
  refine congrArg x (funext fun a => Fin.ext ?_)
  have hil := i.isLt
  have hul := u.isLt
  match a with
  | ⟨0, _⟩ =>
    show GatherDims.start gather_S8x200x900_S200x2_S200x900_1_01_n_n_01_1_11900 (ix2 t q) idx 0 + GatherDims.batchCoord gather_S8x200x900_S200x2_S200x900_1_01_n_n_01_1_11900 (ix2 t q) 0 +
      GatherDims.offCoord gather_S8x200x900_S200x2_S200x900_1_01_n_n_01_1_11900 (ix2 t q) 0 = i.val
    rw [GatherDims.batchCoord_eq_zero _ _ _ List.not_mem_nil, GatherDims.offCoord_eq_zero _ _ _ (by decide)]
    unfold GatherDims.start
    rw [dif_pos (by decide)]
    have hsi : ∀ h, GatherDims.siIdx gather_S8x200x900_S200x2_S200x900_1_01_n_n_01_1_11900 (ix2 t q)
        ⟨List.idxOf (0 : Fin 3) gather_S8x200x900_S200x2_S200x900_1_01_n_n_01_1_11900.startIndexMap, h⟩ = ix2 t 0 := by
      intro h
      funext b; refine Fin.ext ?_
      match b with
      | ⟨0, _⟩ => rfl
      | ⟨1, _⟩ => rfl
    rw [hsi, hi, StableHlo.Predicate.toInt_ofNat_small _ (by omega)]
    show min ((i.val : Int)).toNat (8 - 1) + 0 + 0 = i.val
    omega
  | ⟨1, _⟩ =>
    show GatherDims.start gather_S8x200x900_S200x2_S200x900_1_01_n_n_01_1_11900 (ix2 t q) idx 1 + GatherDims.batchCoord gather_S8x200x900_S200x2_S200x900_1_01_n_n_01_1_11900 (ix2 t q) 1 +
      GatherDims.offCoord gather_S8x200x900_S200x2_S200x900_1_01_n_n_01_1_11900 (ix2 t q) 1 = u.val
    rw [GatherDims.batchCoord_eq_zero _ _ _ List.not_mem_nil, GatherDims.offCoord_eq_zero _ _ _ (by decide)]
    unfold GatherDims.start
    rw [dif_pos (by decide)]
    have hsi : ∀ h, GatherDims.siIdx gather_S8x200x900_S200x2_S200x900_1_01_n_n_01_1_11900 (ix2 t q)
        ⟨List.idxOf (1 : Fin 3) gather_S8x200x900_S200x2_S200x900_1_01_n_n_01_1_11900.startIndexMap, h⟩ = ix2 t 1 := by
      intro h
      funext b; refine Fin.ext ?_
      match b with
      | ⟨0, _⟩ => rfl
      | ⟨1, _⟩ => rfl
    rw [hsi, hu, StableHlo.Predicate.toInt_ofNat_small _ (by omega)]
    show min ((u.val : Int)).toNat (200 - 1) + 0 + 0 = u.val
    omega
  | ⟨2, _⟩ =>
    show GatherDims.start gather_S8x200x900_S200x2_S200x900_1_01_n_n_01_1_11900 (ix2 t q) idx 2 + GatherDims.batchCoord gather_S8x200x900_S200x2_S200x900_1_01_n_n_01_1_11900 (ix2 t q) 2 +
      GatherDims.offCoord gather_S8x200x900_S200x2_S200x900_1_01_n_n_01_1_11900 (ix2 t q) 2 = q.val
    rw [GatherDims.batchCoord_eq_zero _ _ _ List.not_mem_nil]
    unfold GatherDims.start
    rw [dif_neg (by decide)]
    unfold GatherDims.offCoord
    rw [dif_pos (by decide)]
    simp only [Nat.zero_add]
    rfl

end Cert.ReferenceIdeal.Match

end
-- ==== Proof.RefCost.lean ====
/- The arrays the reference's cost is made of, read at an index: the boxes' distance, the class probabilities, the boxes' corners and
   areas, and the overlaps' extents. A query's row among the 7200 is `900 image + query`. -/
module

public import proofs.«01_k».proof.Proof.Gen.ReferenceIdeal.Run
public import proofs.«01_k».proof.Proof.RefGather
public import proofs.«01_k».proof.Proof.EntryFacts
public import Idealize.ShloMosaic.Lib.StableHlo.ReadAt

@[expose] public section

set_option maxRecDepth 16384

noncomputable section

namespace Cert.ReferenceIdeal.Match

open Idealize.ShloMosaic Idealize.ShloMosaic.StableHlo Cert.ReferenceIdeal Cert.ReferenceIdeal.Gen

/-- The logits of a query. -/
abbrev logits (a0 : Vec Ideal S8x900x92 .f32) (b : Fin 8) (q : Fin 900) : Fin 92 → EReal := fun x => a0 (ix3 b q x)

/-- The box of a query. -/
abbrev qbox (a1 : Vec Ideal S8x900x4 .f32) (b : Fin 8) (q : Fin 900) : Fin 4 → EReal := fun k => a1 (ix3 b q k)

/-- The box of a target. -/
abbrev tbox (a3 : Vec Ideal S200x4 .f32) (t : Fin 200) : Fin 4 → EReal := fun k => a3 (ix2 t k)

/-- The row of image `b`'s query `q` among all queries. -/
abbrev flat (b : Fin 8) (q : Fin 900) : Fin 7200 := ⟨b.val * 900 + q.val, by omega⟩

/-- A flat row's image. -/
theorem flat_image (b : Fin 8) (q : Fin 900) (h : (b.val * 900 + q.val) / 900 < 8) : (⟨(b.val * 900 + q.val) / 900, h⟩ : Fin 8) = b :=
  Fin.ext (by have := q.isLt; show (b.val * 900 + q.val) / 900 = b.val; omega)

/-- A flat row's query. -/
theorem flat_query (b : Fin 8) (q : Fin 900) (h : (b.val * 900 + q.val) % 900 < 900) : (⟨(b.val * 900 + q.val) % 900, h⟩ : Fin 900) = q :=
  Fin.ext (by have := q.isLt; show (b.val * 900 + q.val) % 900 = q.val; omega)

/-- A word that is a class number is its own index: it is not negative. -/
theorem class_index (l : Fin 92) (w : BitVec 32) (hl : w = BitVec.ofNat 32 l.val) :
    Scalar.select (IntOp.cmpi .slt w 0#32) (IntOp.addi w 92#32) w = BitVec.ofNat 32 l.val := by
  subst hl
  revert l
  decide

variable (V : Valuation τ sig (Elt Ideal)) (b : Fin 8) (q : Fin 900) (t : Fin 200)

/-- The sum of the coordinates' distances. -/
theorem dist_at : (after hostOps0 V (Proc.devRef .tc main_v27) : Vec Ideal S7200x200 .f32) (ix2 (flat b q) t)
    = Entry.dist (qbox (V (Proc.devRef .tc main_arg1)) b q) (tbox (V (Proc.devRef .tc main_arg3)) t) := by
  after_reads_simp
  pointwise
  simp only [flat_image, flat_query]
  rfl

/-- The probability of the target's class, negated. -/
theorem prob_at (l : Fin 92) (hl : (V (Proc.devRef .tc main_arg2) : Vec Ideal S200 .i32) (ix1 t) = BitVec.ofNat 32 l.val) :
    (after hostOps0 V (Proc.devRef .tc main_v20) : Vec Ideal S7200x200 .f32) (ix2 (flat b q) t) = -Entry.prob (logits (V (Proc.devRef .tc main_arg0)) b q) l := by
  after_reads_simp
  pointwise
  rw [gather_column (l := l)]
  · pointwise
    simp only [flat_image, flat_query, Entry.bot_eq, max_eq_right (bot_le : (⊥ : EReal) ≤ _)]
    simp only [Entry.prob, Entry.bot_eq]
  · pointwise
    exact class_index l _ hl

/-- The left edge of a query's box. -/
theorem query_left_at : (after hostOps0 V (Proc.devRef .tc main_v52) : Vec Ideal S7200x4 .f32) (ix2 (flat b q) 0)
    = Entry.low (qbox (V (Proc.devRef .tc main_arg1)) b q 0) (qbox (V (Proc.devRef .tc main_arg1)) b q 2) := by
  after_reads_simp
  pointwise
  after_reads_simp
  pointwise
  simp only [flat_image, flat_query]
  rfl

/-- The lower edge of a query's box. -/
theorem query_lower_at : (after hostOps0 V (Proc.devRef .tc main_v52) : Vec Ideal S7200x4 .f32) (ix2 (flat b q) 1)
    = Entry.low (qbox (V (Proc.devRef .tc main_arg1)) b q 1) (qbox (V (Proc.devRef .tc main_arg1)) b q 3) := by
  after_reads_simp
  pointwise
  after_reads_simp
  pointwise
  simp only [flat_image, flat_query]
  rfl

/-- The right edge of a query's box. -/
theorem query_right_at : (after hostOps0 V (Proc.devRef .tc main_v52) : Vec Ideal S7200x4 .f32) (ix2 (flat b q) 2)
    = Entry.high (qbox (V (Proc.devRef .tc main_arg1)) b q 0) (qbox (V (Proc.devRef .tc main_arg1)) b q 2) := by
  after_reads_simp
  pointwise
  after_reads_simp
  pointwise
  simp only [flat_image, flat_query]
  rfl

/-- The upper edge of a query's box. -/
theorem query_upper_at : (after hostOps0 V (Proc.devRef .tc main_v52) : Vec Ideal S7200x4 .f32) (ix2 (flat b q) 3)
    = Entry.high (qbox (V (Proc.devRef .tc main_arg1)) b q 1) (qbox (V (Proc.devRef .tc main_arg1)) b q 3) := by
  after_reads_simp
  pointwise
  after_reads_simp
  pointwise
  simp only [flat_image, flat_query]
  rfl

/-- The left edge of a target's box. -/
theorem target_left_at : (after hostOps0 V (Proc.devRef .tc main_v77) : Vec Ideal S200x4 .f32) (ix2 (t) 0)
    = Entry.low (tbox (V (Proc.devRef .tc main_arg3)) t 0) (tbox (V (Proc.devRef .tc main_arg3)) t 2) := by
  after_reads_simp
  pointwise
  after_reads_simp
  pointwise
  rfl

/-- The lower edge of a target's box. -/
theorem target_lower_at : (after hostOps0 V (Proc.devRef .tc main_v77) : Vec Ideal S200x4 .f32) (ix2 (t) 1)
    = Entry.low (tbox (V (Proc.devRef .tc main_arg3)) t 1) (tbox (V (Proc.devRef .tc main_arg3)) t 3) := by
  after_reads_simp
  pointwise
  after_reads_simp
  pointwise
  rfl

/-- The right edge of a target's box. -/
theorem target_right_at : (after hostOps0 V (Proc.devRef .tc main_v77) : Vec Ideal S200x4 .f32) (ix2 (t) 2)
    = Entry.high (tbox (V (Proc.devRef .tc main_arg3)) t 0) (tbox (V (Proc.devRef .tc main_arg3)) t 2) := by
  after_reads_simp
  pointwise
  after_reads_simp
  pointwise
  rfl

/-- The upper edge of a target's box. -/
theorem target_upper_at : (after hostOps0 V (Proc.devRef .tc main_v77) : Vec Ideal S200x4 .f32) (ix2 (t) 3)
    = Entry.high (tbox (V (Proc.devRef .tc main_arg3)) t 1) (tbox (V (Proc.devRef .tc main_arg3)) t 3) := by
  after_reads_simp
  pointwise
  after_reads_simp
  pointwise
  rfl

/-- The area of a query's box. -/
theorem query_area_at : (after hostOps0 V (Proc.devRef .tc main_v88) : Vec Ideal S7200 .f32) (ix1 (flat b q)) = Entry.area (qbox (V (Proc.devRef .tc main_arg1)) b q) := by
  after_reads_simp
  pointwise
  after_reads_simp
  pointwise
  simp only [flat_image, flat_query]
  rfl

/-- The area of a target's box. -/
theorem target_area_at : (after hostOps0 V (Proc.devRef .tc main_v99) : Vec Ideal S200 .f32) (ix1 (t)) = Entry.area (tbox (V (Proc.devRef .tc main_arg3)) t) := by
  after_reads_simp
  pointwise
  after_reads_simp
  pointwise
  rfl

/-- The width of two boxes' overlap, negative where they are apart. -/
theorem overlap_width_at : (after hostOps0 V (Proc.devRef .tc main_v114) : Vec Ideal S7200x200x2 .f32) (ix3 (flat b q) t 0)
    = min (Entry.high (qbox (V (Proc.devRef .tc main_arg1)) b q 0) (qbox (V (Proc.devRef .tc main_arg1)) b q 2)) (Entry.high (tbox (V (Proc.devRef .tc main_arg3)) t 0) (tbox (V (Proc.devRef .tc main_arg3)) t 2))
      - max (Entry.low (qbox (V (Proc.devRef .tc main_arg1)) b q 0) (qbox (V (Proc.devRef .tc main_arg1)) b q 2)) (Entry.low (tbox (V (Proc.devRef .tc main_arg3)) t 0) (tbox (V (Proc.devRef .tc main_arg3)) t 2)) := by
  after_reads_simp
  pointwise
  after_reads_simp
  pointwise
  simp only [flat_image, flat_query]
  rfl

/-- The height of two boxes' overlap, negative where they are apart. -/
theorem overlap_height_at : (after hostOps0 V (Proc.devRef .tc main_v114) : Vec Ideal S7200x200x2 .f32) (ix3 (flat b q) t 1)
    = min (Entry.high (qbox (V (Proc.devRef .tc main_arg1)) b q 1) (qbox (V (Proc.devRef .tc main_arg1)) b q 3)) (Entry.high (tbox (V (Proc.devRef .tc main_arg3)) t 1) (tbox (V (Proc.devRef .tc main_arg3)) t 3))
      - max (Entry.low (qbox (V (Proc.devRef .tc main_arg1)) b q 1) (qbox (V (Proc.devRef .tc main_arg1)) b q 3)) (Entry.low (tbox (V (Proc.devRef .tc main_arg3)) t 1) (tbox (V (Proc.devRef .tc main_arg3)) t 3)) := by
  after_reads_simp
  pointwise
  after_reads_simp
  pointwise
  simp only [flat_image, flat_query]
  rfl

/-- The floor of the overlap's extent. -/
theorem floor_at : (after hostOps0 V (Proc.devRef .tc main_cst_12) : Vec Ideal S_ .f32) ix0 = (0 : EReal) := by
  after_reads_simp
  pointwise

end Cert.ReferenceIdeal.Match

end
-- ==== Proof.RefEntry.lean ====
/- The matrix the reference starts its matching loop from, entry by entry: row `q` and column `t` hold the entry of query `q` of image
   `t / 25` and target `t`; and the table that says which columns belong to which image. -/
module

public import proofs.«01_k».proof.Proof.RefCost

@[expose] public section

set_option maxRecDepth 16384

noncomputable section

namespace Cert.ReferenceIdeal.Match

open Idealize.ShloMosaic Idealize.ShloMosaic.StableHlo Cert.ReferenceIdeal Cert.ReferenceIdeal.Gen

variable (V : Valuation τ sig (Elt Ideal)) (b : Fin 8) (q : Fin 900) (t : Fin 200)

/-- The contents once the costs are standardized and their quantile arguments are computed. -/
abbrev costed : Valuation τ sig (Elt Ideal) :=
  after hostOps0_4 (after hostOps0_3 (after hostOps0_2 (after hostOps0_1 (after hostOps0 V))))

/-- The contents once the inverse error function is computed. -/
abbrev inverted : Valuation τ sig (Elt Ideal) :=
  after hostOps0_25 <| after hostOps0_24 <| after hostOps0_23 <| after hostOps0_22 <| after hostOps0_21 <| after hostOps0_20 <|
  after hostOps0_19 <| after hostOps0_18 <| after hostOps0_17 <| after hostOps0_16 <| after hostOps0_15 <| after hostOps0_14 <|
  after hostOps0_13 <| after hostOps0_12 <| after hostOps0_11 <| after hostOps0_10 <| after hostOps0_9 <| after hostOps0_8 <|
  after hostOps0_7 <| after hostOps0_6 <| after hostOps0_5 V

/-- The error function of the standardized cost, from the cost's parts. -/
theorem central_of_parts (W : Valuation τ sig (Elt Ideal)) (x : Fin 92 → EReal) (u : Fin 4 → EReal) (l : Fin 92) (v : Fin 4 → EReal)
    (hd : (W (Proc.devRef .tc main_v27) : Vec Ideal S7200x200 .f32) (ix2 (flat b q) t) = Entry.dist u v)
    (hp : (W (Proc.devRef .tc main_v20) : Vec Ideal S7200x200 .f32) (ix2 (flat b q) t) = -Entry.prob x l)
    (h0 : (W (Proc.devRef .tc main_cst_12) : Vec Ideal S_ .f32) ix0 = (0 : EReal))
    (hw : (W (Proc.devRef .tc main_v114) : Vec Ideal S7200x200x2 .f32) (ix3 (flat b q) t 0)
      = min (Entry.high (u 0) (u 2)) (Entry.high (v 0) (v 2)) - max (Entry.low (u 0) (u 2)) (Entry.low (v 0) (v 2)))
    (hh : (W (Proc.devRef .tc main_v114) : Vec Ideal S7200x200x2 .f32) (ix3 (flat b q) t 1)
      = min (Entry.high (u 1) (u 3)) (Entry.high (v 1) (v 3)) - max (Entry.low (u 1) (u 3)) (Entry.low (v 1) (v 3)))
    (hq : (W (Proc.devRef .tc main_v88) : Vec Ideal S7200 .f32) (ix1 (flat b q)) = Entry.area u)
    (ht : (W (Proc.devRef .tc main_v99) : Vec Ideal S200 .f32) (ix1 t) = Entry.area v)
    (q0 : (W (Proc.devRef .tc main_v52) : Vec Ideal S7200x4 .f32) (ix2 (flat b q) 0) = Entry.low (u 0) (u 2))
    (q1 : (W (Proc.devRef .tc main_v52) : Vec Ideal S7200x4 .f32) (ix2 (flat b q) 1) = Entry.low (u 1) (u 3))
    (q2 : (W (Proc.devRef .tc main_v52) : Vec Ideal S7200x4 .f32) (ix2 (flat b q) 2) = Entry.high (u 0) (u 2))
    (q3 : (W (Proc.devRef .tc main_v52) : Vec Ideal S7200x4 .f32) (ix2 (flat b q) 3) = Entry.high (u 1) (u 3))
    (t0 : (W (Proc.devRef .tc main_v77) : Vec Ideal S200x4 .f32) (ix2 t 0) = Entry.low (v 0) (v 2))
    (t1 : (W (Proc.devRef .tc main_v77) : Vec Ideal S200x4 .f32) (ix2 t 1) = Entry.low (v 1) (v 3))
    (t2 : (W (Proc.devRef .tc main_v77) : Vec Ideal S200x4 .f32) (ix2 t 2) = Entry.high (v 0) (v 2))
    (t3 : (W (Proc.devRef .tc main_v77) : Vec Ideal S200x4 .f32) (ix2 t 3) = Entry.high (v 1) (v 3)) :
    (after hostOps0_4 (after hostOps0_3 (after hostOps0_2 (after hostOps0_1 W))) (Proc.devRef .tc main_v170) : Vec Ideal S8x900x200 .f32)
      (ix3 b q t) = Entry.central (Entry.cost x u l v) := by
  after_reads_simp
  simp -implicitDefEqProofs only [StableHlo.TRef.toBuf, StableHlo.TRef.ofBuf, cast_cast, cast_eq, id_eq]
  pointwise
  rw [hd, hp, h0, hw, hh, hq, ht, q0, q1, q2, q3, t0, t1, t2, t3, Entry.cdf_scale_eq]
  rfl

/-- The error function of the standardized cost of a query and a target of class `l`. -/
theorem central_at (l : Fin 92) (hl : (V (Proc.devRef .tc main_arg2) : Vec Ideal S200 .i32) (ix1 t) = BitVec.ofNat 32 l.val) :
    (costed V (Proc.devRef .tc main_v170) : Vec Ideal S8x900x200 .f32) (ix3 b q t)
      = Entry.central (Entry.cost (logits (V (Proc.devRef .tc main_arg0)) b q) (qbox (V (Proc.devRef .tc main_arg1)) b q) l
          (tbox (V (Proc.devRef .tc main_arg3)) t)) :=
  central_of_parts b q t (after hostOps0 V) _ _ _ _ (dist_at V b q t) (prob_at V b q t l hl) (floor_at V) (overlap_width_at V b q t)
    (overlap_height_at V b q t) (query_area_at V b q) (target_area_at V t) (query_left_at V b q) (query_lower_at V b q)
    (query_right_at V b q) (query_upper_at V b q) (target_left_at V t) (target_lower_at V t) (target_right_at V t) (target_upper_at V t)

/-- The cumulative probability, of the error function. -/
theorem cumul_at : (after hostOps0_4 V (Proc.devRef .tc main_v174) : Vec Ideal S8x900x200 .f32) (ix3 b q t)
    = Entry.cumul ((after hostOps0_4 V (Proc.devRef .tc main_v170) : Vec Ideal S8x900x200 .f32) (ix3 b q t)) := by
  after_reads_simp
  simp -implicitDefEqProofs only [cast_eq, id_eq]
  pointwise
  rfl

open Classical in
/-- Which piece of the inverse error function the probability falls in. -/
theorem piece_at : (after hostOps0_4 V (Proc.devRef .tc main_v182) : Vec Ideal S8x900x200 .i1) (ix3 b q t)
    = BitVec.ofBool (decide (Entry.width (Entry.cumul ((after hostOps0_4 V (Proc.devRef .tc main_v170) : Vec Ideal S8x900x200 .f32) (ix3 b q t)))
        < Ideal.ofBits .f32 0x40A00000#32)) := by
  after_reads_simp
  simp -implicitDefEqProofs only [cast_eq, id_eq]
  pointwise
  rfl

/-- The central piece's variable. -/
theorem near_at : (after hostOps0_4 V (Proc.devRef .tc main_v184) : Vec Ideal S8x900x200 .f32) (ix3 b q t)
    = Entry.width (Entry.cumul ((after hostOps0_4 V (Proc.devRef .tc main_v170) : Vec Ideal S8x900x200 .f32) (ix3 b q t)))
      - Ideal.ofBits .f32 0x40200000#32 := by
  after_reads_simp
  simp -implicitDefEqProofs only [cast_eq, id_eq]
  pointwise
  rfl

/-- The tail piece's variable. -/
theorem far_at : (after hostOps0_4 V (Proc.devRef .tc main_v187) : Vec Ideal S8x900x200 .f32) (ix3 b q t)
    = Ideal.sqrt (Entry.width (Entry.cumul ((after hostOps0_4 V (Proc.devRef .tc main_v170) : Vec Ideal S8x900x200 .f32) (ix3 b q t))))
      - Ideal.ofBits .f32 0x40400000#32 := by
  after_reads_simp
  simp -implicitDefEqProofs only [cast_eq, id_eq]
  pointwise
  rfl

/-- The quantile's scale. -/
theorem scale_at : (after hostOps0_4 V (Proc.devRef .tc main_v176) : Vec Ideal S_ .f32) ix0
    = (((5033165 / 16777216) * Real.sqrt 2 : ℝ) : EReal) := by
  after_reads_simp
  pointwise
  exact Entry.icdf_scale_eq

/-- The scale is still there after the inverse error function. -/
theorem scale_kept : (inverted V (Proc.devRef .tc main_v176) : Vec Ideal S_ .f32) ix0 = (V (Proc.devRef .tc main_v176) : Vec Ideal S_ .f32) ix0 := by
  after_reads_simp

open Classical in
/-- The inverse error function of a probability, from its pieces. -/
theorem erfinv_of_parts (p : EReal)
    (hp : (V (Proc.devRef .tc main_v174) : Vec Ideal S8x900x200 .f32) (ix3 b q t) = p)
    (hc : (V (Proc.devRef .tc main_v182) : Vec Ideal S8x900x200 .i1) (ix3 b q t)
      = BitVec.ofBool (decide (Entry.width p < Ideal.ofBits .f32 0x40A00000#32)))
    (hw : (V (Proc.devRef .tc main_v184) : Vec Ideal S8x900x200 .f32) (ix3 b q t) = Entry.width p - Ideal.ofBits .f32 0x40200000#32)
    (hf : (V (Proc.devRef .tc main_v187) : Vec Ideal S8x900x200 .f32) (ix3 b q t) = Ideal.sqrt (Entry.width p) - Ideal.ofBits .f32 0x40400000#32) :
    (inverted V (Proc.devRef .tc main_v229) : Vec Ideal S8x900x200 .f32) (ix3 b q t) = Entry.erfinv p := by
  after_reads_simp
  simp -implicitDefEqProofs only [StableHlo.TRef.toBuf, StableHlo.TRef.ofBuf, cast_cast, cast_eq, id_eq]
  pointwise
  rw [hp, hc, hw, hf]
  unfold Entry.erfinv Entry.horner Entry.shifted
  have ht : ∀ x y : EReal, Scalar.select (BitVec.ofBool true) x y = x := fun _ _ => rfl
  have hf : ∀ x y : EReal, Scalar.select (BitVec.ofBool false) x y = y := fun _ _ => rfl
  by_cases h : Entry.width p < Ideal.ofBits .f32 0x40A00000#32
  · simp only [h, decide_true, if_true, ht]
  · simp only [h, decide_false, if_false, hf]

/-- The matrix the loop starts from: column `t` is the target's column in its image. -/
theorem start_of_quantile : (after hostOps0_26 V (Proc.devRef .tc main_v263_3) : Vec Ideal S900x200 .f32) (ix2 q t)
    = FloatOps.mulf (F := Ideal) (φ := .f32) ((V (Proc.devRef .tc main_v176) : Vec Ideal S_ .f32) ix0)
        ((V (Proc.devRef .tc main_v229) : Vec Ideal S8x900x200 .f32) (ix3 ⟨t.val / 25, by omega⟩ q t)) := by
  after_reads_at
  simp only [id_eq]
  pointwise
  rw [gather_image (i := ⟨t.val / 25, by omega⟩) (u := t)]
  · pointwise
  · pointwise
    after_reads_simp
    pointwise
    exact index_self _ _ (by omega)
  · pointwise
    after_reads_simp
    pointwise
    exact index_self _ _ (by omega)

/-- The table's entry: whether two columns are of the same image. -/
theorem same_image (t' : Fin 200) : (after hostOps0_26 V (Proc.devRef .tc main_v263_0) : Vec Ideal S200x200 .i32) (ix2 t t')
    = if t.val / 25 = t'.val / 25 then 1#32 else 0#32 := by
  after_reads_at
  simp only [id_eq]
  show BitVec.setWidth 32 (IntOp.cmpi .eq (IntOp.addi (BitVec.ofNat 32 (t.val / 25)) 0#32) (BitVec.ofNat 32 (t'.val / 25))) = _
  rw [show IntOp.addi (BitVec.ofNat 32 (t.val / 25)) 0#32 = BitVec.ofNat 32 (t.val / 25) from BitVec.add_zero _]
  by_cases h : t.val / 25 = t'.val / 25
  · rw [if_pos h, h]
    show BitVec.setWidth 32 (BitVec.ofBool (_ == _)) = _
    rw [beq_self_eq_true]
    rfl
  · rw [if_neg h]
    have hne : BitVec.ofNat 32 (t.val / 25) ≠ BitVec.ofNat 32 (t'.val / 25) := fun e => h (by
      have := congrArg BitVec.toNat e
      simp only [BitVec.toNat_ofNat] at this
      omega)
    show BitVec.setWidth 32 (BitVec.ofBool (_ == _)) = _
    rw [beq_false_of_ne hne]
    rfl

/-- The contents the loop starts from. -/
abbrev started : Valuation τ sig (Elt Ideal) := after hostOps0_26 (inverted (costed V))

/-- AN ENTRY OF THE MATRIX THE LOOP STARTS FROM, of the arguments. -/
theorem start_at (l : Fin 92) (hl : (V (Proc.devRef .tc main_arg2) : Vec Ideal S200 .i32) (ix1 t) = BitVec.ofNat 32 l.val) :
    (started V (Proc.devRef .tc main_v263_3) : Vec Ideal S900x200 .f32) (ix2 q t)
      = Entry.entry (logits (V (Proc.devRef .tc main_arg0)) ⟨t.val / 25, by omega⟩ q) (qbox (V (Proc.devRef .tc main_arg1)) ⟨t.val / 25, by omega⟩ q)
          l (tbox (V (Proc.devRef .tc main_arg3)) t) := by
  refine (start_of_quantile (inverted (costed V)) q t).trans ?_
  have he := erfinv_of_parts (costed V) ⟨t.val / 25, by omega⟩ q t _ (cumul_at _ _ _ _) (piece_at _ _ _ _) (near_at _ _ _ _) (far_at _ _ _ _)
  exact congrArg₂ (· * ·) ((scale_kept _).trans (scale_at _))
    (he.trans (congrArg (fun e => Entry.erfinv (Entry.cumul e)) (central_at V _ q t l hl)))

end Cert.ReferenceIdeal.Match

end
-- ==== Proof.RefTopTwo.lean ====
/- The reference's two best entries of a column: what its sort-and-cut leaves are the column's largest and second largest entry. -/
module

public import proofs.«01_k».proof.Proof.Gen.ReferenceIdeal
public import proofs.«01_k».proof.Proof.Greedy
public import Idealize.ShloMosaic.Lib.Pointwise
public import Idealize.ShloMosaic.Lib.SortFacts

@[expose] public section

set_option maxRecDepth 16384

noncomputable section

namespace Cert.ReferenceIdeal.Match

open Idealize.ShloMosaic Cert.ReferenceIdeal Cert.ReferenceIdeal.Gen Cert.Greedy

/-- Whether entry `a` of a row is above entry `b`. -/
def above (f : Fin 900 → EReal) (a b : Fin 900) : Bool := Ideal.cmp .ogt (f a) (f b) == 1#1

theorem above_iff (f : Fin 900 → EReal) (a b : Fin 900) : above f a b = decide (f b < f a) := by
  unfold above
  show (BitVec.ofBool (decide (f b < f a)) == 1#1) = _
  cases decide (f b < f a) <;> rfl

theorem sorted_antitone (f : Fin 900 → EReal) (i j : Fin 900) (h : i < j) :
    f (sortedFrom (above f) j) ≤ f (sortedFrom (above f) i) := by
  have := sortedFrom_noInversion (above f) (above f)
    (fun a b h => by rw [above_iff] at h ⊢; exact decide_eq_false (not_lt.mpr (of_decide_eq_true h).le))
    (fun a b h => h)
    (fun a b c h1 h2 => by
      rw [above_iff] at h1 h2 ⊢
      exact decide_eq_false (not_lt.mpr ((not_lt.mp (of_decide_eq_false h1)).trans (not_lt.mp (of_decide_eq_false h2)))))
    i j h
  rw [above_iff] at this
  exact not_lt.mp (of_decide_eq_false this)

/-- The first two of a row sorted downward are its largest and second largest entry. -/
theorem sorted_topTwo (f : Fin 900 → EReal) : TopTwo f (f (sortedFrom (above f) 0)) (f (sortedFrom (above f) 1)) := by
  refine ⟨_, _, ?_, rfl, rfl, sorted_antitone f 0 1 (by decide), fun k hk => ?_⟩
  · exact fun e => absurd (sortedFrom_injective _ e) (by decide)
  · obtain ⟨j, rfl⟩ := sortedFrom_surjective (above f) k
    by_cases h1 : j = 1
    · rw [h1]
    · refine sorted_antitone f 1 j ?_
      have h0 : j ≠ 0 := fun e => hk (by rw [e])
      have h0' : j.val ≠ 0 := fun e => h0 (Fin.ext e)
      have h1' : j.val ≠ 1 := fun e => h1 (Fin.ext e)
      show 1 < j.val
      omega

/-- What the sort-and-cut holds at row `t`. -/
theorem topK_at (x : Vec Ideal S200x900 .f32) (t : Fin 200) (k : Fin 2) :
    (Host.topK S200x2 1 (FloatOps.cmpfTotal (F := Ideal) (φ := .f32) .gt) x sliceFits_S200x900_S200x2).1 (ix2 t k)
      = x (ix2 t (sortedFrom (above fun q => x (ix2 t q)) ⟨k.val, by omega⟩)) := by
  have hd : 1 < S200x900.rank := by decide
  have al : ∀ (j : S200x900.Idx) (q : Fin 900), j.along ⟨1, hd⟩ q = ix2 (j 0) q := by
    intro j q
    funext a
    match a with
    | ⟨0, _⟩ => rfl
    | ⟨1, _⟩ => rfl
  unfold Host.topK Host.sort2
  pointwise
  have al' : ∀ q : Fin 900, (ix2 t (⟨k.val, by omega⟩ : Fin 900) : S200x900.Idx).along 1 q = ix2 t q := fun q => al _ q
  simp only [al']
  rfl

end Cert.ReferenceIdeal.Match

end
-- ==== Proof.RefStep.lean ====
/- One trip of the reference's loop is one greedy pick on the table it holds. -/
module

public import proofs.«01_k».proof.Proof.RefTopTwo
public import proofs.«01_k».proof.Proof.RefGather
public import proofs.«01_k».proof.Proof.Gen.ReferenceIdeal.Run
public import Idealize.ShloMosaic.Lib.Routing.OpsOne

@[expose] public section

set_option maxRecDepth 16384

noncomputable section

namespace Cert.ReferenceIdeal.Match

open Idealize.ShloMosaic Cert.ReferenceIdeal Cert.ReferenceIdeal.Gen Cert.Greedy
open Cert.Entry (bot_eq hundred_eq)

/-! ## The pieces over plain arrays -/

/-- The position word of the first largest of 200 values. -/
theorem first_of_targets (x : FVec Ideal S200 .f32) (i : Fin 200) (h : IsFirst (fun t => x (ix1 t)) i) :
    Host.reduce IntOp.minsi (select (cmpf .oeq x (broadcastInDim S200 ![] bcast_S_S200 (Host.reduce FloatOps.maximumf x
      (constant S_ .f32 0xFF800000#32) reducesTo_S200_S_d0 h_S_))) (iotaInDim S200 32 0)
      (broadcastInDim S200 ![] bcast_S_S200 (id (constantI S_ 32 200#32)))) (constantI S_ 32 2147483647#32) reducesTo_S200_S_d0 h_S_ ix0
    = BitVec.ofNat 32 i.val := by
  simp only [id_eq]
  pointwise
  rw [bot_eq]
  exact fold_minsi_first (fun t => x (ix1 t)) i h 200 le_rfl (by norm_num)

/-- The position word of the first largest of 900 values. -/
theorem first_of_queries (x : FVec Ideal S900 .f32) (i : Fin 900) (h : IsFirst (fun t => x (ix1 t)) i) :
    Host.reduce IntOp.minsi (select (cmpf .oeq x (broadcastInDim S900 ![] bcast_S_S900 (Host.reduce FloatOps.maximumf x
      (constant S_ .f32 0xFF800000#32) reducesTo_S900_S_d0 h_S_))) (iotaInDim S900 32 0)
      (broadcastInDim S900 ![] bcast_S_S900 (id (constantI S_ 32 900#32)))) (constantI S_ 32 2147483647#32) reducesTo_S900_S_d0 h_S_ ix0
    = BitVec.ofNat 32 i.val := by
  simp only [id_eq]
  pointwise
  rw [bot_eq]
  exact fold_minsi_first (fun t => x (ix1 t)) i h 900 le_rfl (by norm_num)

/-- A position word, wrapped from the end when negative. -/
theorem wrap_at (w : IVec S_ 32) (c : BitVec 32) (n : ℕ) (hn : n < 2 ^ 31) (h : w ix0 = BitVec.ofNat 32 n) (i : S_.Idx) :
    select (cmpi .slt w (constantI S_ 32 0#32)) (addi w (constantI S_ 32 c)) w i = BitVec.ofNat 32 n := by
  rw [show i = ix0 from funext fun a => a.elim0]
  show Scalar.select (IntOp.cmpi .slt (w ix0) 0#32) (IntOp.addi (w ix0) c) (w ix0) = _
  rw [h]
  exact index_self n _ hn

/-- A word of a target's or query's number, read as an integer. -/
theorem word_int (n : ℕ) (hn : n < 2 ^ 31) (x : BitVec 32) (h : x = BitVec.ofNat 32 n) : x.toInt = (n : ℤ) := by
  rw [h, StableHlo.Predicate.toInt_ofNat_small _ hn]

theorem small_target (t : Fin 200) : t.val < 2 ^ 31 := by have := t.isLt; omega
theorem small_query (q : Fin 900) : q.val < 2 ^ 31 := by have := q.isLt; omega

/-- A column read out of the table. -/
theorem column_at (B : FVec Ideal S900x200 .f32) (w0 w1 : IVec S_ 32) (i : S_.Idx) (c : Fin 200) (h0 : w0 i = BitVec.ofNat 32 0)
    (h1 : w1 i = BitVec.ofNat 32 c.val) (q : Fin 900) :
    shapeCast S900 (Host.dynamicSlice S900x1 B (fun k => ((![w0, w1] : Fin 2 → IVec S_ 32) k i).toInt) sliceFits_S900x200_S900x1) shapeCasts_S900x1_S900 (ix1 q) = B (ix2 q c) := by
  have hc := c.isLt
  have e0 : Host.clampedStart S900x200 S900x1 (by decide) (fun k => ((![w0, w1] : Fin 2 → IVec S_ 32) k i).toInt) 0 = 0 :=
    Host.clampedStart_of_le (s := S900x200) (t := S900x1) _ _ 0 0 (word_int 0 (by norm_num) _ h0) (by decide)
  have e1 : Host.clampedStart S900x200 S900x1 (by decide) (fun k => ((![w0, w1] : Fin 2 → IVec S_ 32) k i).toInt) 1 = c.val :=
    Host.clampedStart_of_le (s := S900x200) (t := S900x1) _ _ 1 c.val (word_int c.val (small_target _) _ h1) (show c.val + 1 ≤ 200 by omega)
  pointwise
  refine congrArg B (congrArg₂ ix2 (Fin.ext ?_) (Fin.ext ?_))
  · exact (congrArg (· + q.val) e0).trans (Nat.zero_add _)
  · exact e1

/-- A row read out of the table. -/
theorem row_at (B : FVec Ideal S900x200 .f32) (w0 w1 : IVec S_ 32) (i : S_.Idx) (r : Fin 900) (h0 : w0 i = BitVec.ofNat 32 r.val)
    (h1 : w1 i = BitVec.ofNat 32 0) (t : Fin 200) :
    shapeCast S200 (Host.dynamicSlice S1x200 B (fun k => ((![w0, w1] : Fin 2 → IVec S_ 32) k i).toInt) sliceFits_S900x200_S1x200) shapeCasts_S1x200_S200 (ix1 t) = B (ix2 r t) := by
  have hr := r.isLt
  have e0 : Host.clampedStart S900x200 S1x200 (by decide) (fun k => ((![w0, w1] : Fin 2 → IVec S_ 32) k i).toInt) 0 = r.val :=
    Host.clampedStart_of_le (s := S900x200) (t := S1x200) _ _ 0 r.val (word_int r.val (small_query _) _ h0) (show r.val + 1 ≤ 900 by omega)
  have e1 : Host.clampedStart S900x200 S1x200 (by decide) (fun k => ((![w0, w1] : Fin 2 → IVec S_ 32) k i).toInt) 1 = 0 :=
    Host.clampedStart_of_le (s := S900x200) (t := S1x200) _ _ 1 0 (word_int 0 (by norm_num) _ h1) (by decide)
  pointwise
  refine congrArg B (congrArg₂ ix2 (Fin.ext ?_) (Fin.ext ?_))
  · exact e0
  · exact (congrArg (· + t.val) e1).trans (Nat.zero_add _)

/-- A target's row read out of the mask of targets sharing an image. -/
theorem mask_row_at (B : IVec S200x200 32) (w0 w1 : IVec S_ 32) (i : S_.Idx) (r : Fin 200) (h0 : w0 i = BitVec.ofNat 32 r.val)
    (h1 : w1 i = BitVec.ofNat 32 0) (t : Fin 200) :
    shapeCast S200 (Host.dynamicSlice S1x200 B (fun k => ((![w0, w1] : Fin 2 → IVec S_ 32) k i).toInt) sliceFits_S200x200_S1x200) shapeCasts_S1x200_S200 (ix1 t) = B (ix2 r t) := by
  have hr := r.isLt
  have e0 : Host.clampedStart S200x200 S1x200 (by decide) (fun k => ((![w0, w1] : Fin 2 → IVec S_ 32) k i).toInt) 0 = r.val :=
    Host.clampedStart_of_le (s := S200x200) (t := S1x200) _ _ 0 r.val (word_int r.val (small_target _) _ h0) (show r.val + 1 ≤ 200 by omega)
  have e1 : Host.clampedStart S200x200 S1x200 (by decide) (fun k => ((![w0, w1] : Fin 2 → IVec S_ 32) k i).toInt) 1 = 0 :=
    Host.clampedStart_of_le (s := S200x200) (t := S1x200) _ _ 1 0 (word_int 0 (by norm_num) _ h1) (by decide)
  pointwise
  refine congrArg B (congrArg₂ ix2 (Fin.ext ?_) (Fin.ext ?_))
  · exact e0
  · exact (congrArg (· + t.val) e1).trans (Nat.zero_add _)

/-- A column written into the table. -/
theorem set_column (B : FVec Ideal S900x200 .f32) (idx : IVec S1 32) (u : FVec Ideal S900 .f32) (c : Fin 200)
    (h : (idx (ix1 0)).toInt = (c.val : ℤ)) (q : Fin 900) (t : Fin 200) :
    Host.scatter scatter_S900x200_S1_S900_0_1_1_0 (fun _ b => b) B idx u (ix2 q t) = if t = c then u (ix1 q) else B (ix2 q t) := by
  have lands := Routing.lands_col scatter_S900x200_S1_S900_0_1_1_0 rfl rfl idx c h
  by_cases e : t = c
  · rw [if_pos e]
    refine Routing.scatter_set_hit _ B idx u _ _ (fun k hk => ?_) (ix1 q) ((lands q q t).2 ⟨rfl, e⟩)
    rw [eq_ix1 k] at hk ⊢
    rw [((lands _ q t).1 hk).1]
  · rw [if_neg e]
    refine Routing.scatter_set_miss _ B idx u _ fun k hk => ?_
    rw [eq_ix1 k] at hk
    exact e ((lands _ q t).1 hk).2

/-- Where entry `k` of a written row lands. -/
theorem lands_row (idx : IVec S1 32) (r : Fin 900) (h : (idx (ix1 0)).toInt = (r.val : ℤ)) (k : Fin 200) (q : Fin 900) (t : Fin 200) :
    scatter_S900x200_S1_S200_0_0_0_0.resultIdx? (ix1 k) idx = some (ix2 q t) ↔ q = r ∧ k = t := by
  have w0 : scatter_S900x200_S1_S200_0_0_0_0.window (ix1 k) 0 = 0 := by
    unfold ScatterDims.window
    rw [dif_neg (by decide)]
  have w1 : scatter_S900x200_S1_S200_0_0_0_0.window (ix1 k) 1 = k.val := by
    unfold ScatterDims.window
    rw [dif_pos (by decide)]
    rfl
  have s0 : scatter_S900x200_S1_S200_0_0_0_0.start (ix1 k) idx 0 = (r.val : ℤ) := by
    unfold ScatterDims.start
    rw [dif_pos (by decide), ← h]
    refine congrArg (fun i => (idx i).toInt) (funext fun b => Fin.ext ?_)
    match b with
    | ⟨0, _⟩ => rfl
  have s1 : scatter_S900x200_S1_S200_0_0_0_0.start (ix1 k) idx 1 = 0 := by
    unfold ScatterDims.start
    rw [dif_neg (by decide)]
  refine (Routing.resultIdx?_ix2 _ _ _ q t).trans ?_
  rw [w0, w1, s0, s1, Fin.ext_iff, Fin.ext_iff]
  omega

/-- A row written into the table. -/
theorem set_row (B : FVec Ideal S900x200 .f32) (idx : IVec S1 32) (u : FVec Ideal S200 .f32) (r : Fin 900)
    (h : (idx (ix1 0)).toInt = (r.val : ℤ)) (q : Fin 900) (t : Fin 200) :
    Host.scatter scatter_S900x200_S1_S200_0_0_0_0 (fun _ b => b) B idx u (ix2 q t) = if q = r then u (ix1 t) else B (ix2 q t) := by
  have lands := lands_row idx r h
  by_cases e : q = r
  · rw [if_pos e]
    refine Routing.scatter_set_hit _ B idx u _ _ (fun k hk => ?_) (ix1 t) ((lands t q t).2 ⟨e, rfl⟩)
    rw [eq_ix1 k] at hk ⊢
    rw [((lands _ q t).1 hk).2]
  · rw [if_neg e]
    refine Routing.scatter_set_miss _ B idx u _ fun k hk => ?_
    rw [eq_ix1 k] at hk
    exact e ((lands _ q t).1 hk).1

/-- One entry written into the table, at the two words laid side by side. -/
theorem set_entry (B : FVec Ideal S900x200 .f32) (i j : IVec S1 32) (u : FVec Ideal S_ .f32) (r : Fin 900) (c : Fin 200)
    (hr : (i (ix1 0)).toInt = (r.val : ℤ)) (hc : (j (ix1 0)).toInt = (c.val : ℤ)) (q : Fin 900) (t : Fin 200) :
    Host.scatter scatter_S900x200_S2_S__n_01_01_0 (fun _ b => b) B (concatenate S2 0 [⟨S1, i⟩, ⟨S1, j⟩] concatenates_S1_S1_S2_d0) u (ix2 q t)
      = if t = c ∧ q = r then u ix0 else B (ix2 q t) := by
  have e0 : concatenate S2 0 [⟨S1, i⟩, ⟨S1, j⟩] concatenates_S1_S1_S2_d0 (ix1 (0 : Fin 2)) = i (ix1 0) := by
    pointwise
  have e1 : concatenate S2 0 [⟨S1, i⟩, ⟨S1, j⟩] concatenates_S1_S1_S2_d0 (ix1 (1 : Fin 2)) = j (ix1 0) := by
    pointwise
  refine (Routing.scatter_cell_signed _ rfl rfl rfl B _ u q t).trans ?_
  rw [show concatenate S2 0 [⟨S1, i⟩, ⟨S1, j⟩] concatenates_S1_S1_S2_d0 (Idealize.ShloMosaic.ValueIdx.ix1 0) = i (ix1 0) from e0,
    show concatenate S2 0 [⟨S1, i⟩, ⟨S1, j⟩] concatenates_S1_S1_S2_d0 (Idealize.ShloMosaic.ValueIdx.ix1 1) = j (ix1 0) from e1, hr, hc]
  refine if_congr ?_ rfl rfl
  rw [Fin.ext_iff, Fin.ext_iff]
  omega

/-! ## The trip -/

open Cert.ReferenceIdeal.Value

variable (V0 : Valuation τ sig (Elt Ideal))

/-- The table the loop holds, a target's column at a time. -/
def held : Grid := fun t q => (V0 (Proc.devRef .tc main_v263_3) : FVec Ideal S900x200 .f32) (ix2 q t)

theorem capped_at (t : Fin 200) (q : Fin 900) :
    (res_main_while0b_v269 V0 : FVec Ideal S200x900 .f32) (ix2 t q) = capped (held V0 t) q := by
  unfold res_main_while0b_v269
  pointwise
  rw [hundred_eq]
  rfl

/-- The reference's gap of one column. -/
theorem gap_at (h : ∀ t q, held V0 t q ≠ ⊥) (t : Fin 200) :
    (res_main_while0b_v275 V0 : FVec Ideal S200 .f32) (ix1 t) = gap (held V0 t) := by
  unfold res_main_while0b_v275
  pointwise
  have e : (fun q => (res_main_while0b_v269 V0 : FVec Ideal S200x900 .f32) (ix2 t q)) = capped (held V0 t) :=
    funext fun q => capped_at V0 t q
  have two := sorted_topTwo (capped (held V0 t))
  have v : ∀ k : Fin 2, (res_main_while0b_values V0 : FVec Ideal S200x2 .f32) (ix2 t k)
      = capped (held V0 t) (sortedFrom (above (capped (held V0 t))) ⟨k.val, by omega⟩) := fun k => by
    refine (topK_at (res_main_while0b_v269 V0) t k).trans ?_
    rw [e]
    exact capped_at V0 t _
  refine Eq.trans ?_ (gap_abs (by norm_num) (held V0 t) (h t) _ _ two)
  have v0 := v 0
  have v1 := v 1
  exact congrArg₂ (fun a b : EReal => max (b - a) (-(b - a))) v0 v1

/-- The target the reference picks. -/
theorem pick_at (h : ∀ t q, held V0 t q ≠ ⊥) :
    (res_main_while0b_v281 V0 : IVec S_ 32) ix0 = BitVec.ofNat 32 (pick (held V0)).val := by
  refine first_of_targets (res_main_while0b_v275 V0) _ ?_
  have e : (fun t => (res_main_while0b_v275 V0 : FVec Ideal S200 .f32) (ix1 t)) = fun t => gap (held V0 t) :=
    funext fun t => gap_at V0 h t
  rw [e]
  exact first_spec _

/-- The picked target's column. -/
theorem picked_column (h : ∀ t q, held V0 t q ≠ ⊥) (q : Fin 900) :
    (res_main_while0b_v289 V0 : FVec Ideal S900 .f32) (ix1 q) = held V0 (pick (held V0)) q :=
  column_at (V0 (Proc.devRef .tc main_v263_3)) _ _ _ (pick (held V0))
    (wrap_at (constantI S_ 32 0#32) 900#32 0 (by norm_num) rfl _)
    (wrap_at (res_main_while0b_v281 V0) 200#32 _ (small_target _) (pick_at V0 h) _) q

/-- The query the picked target takes. -/
theorem mate_at (h : ∀ t q, held V0 t q ≠ ⊥) :
    (res_main_while0b_v295 V0 : IVec S_ 32) ix0 = BitVec.ofNat 32 (mate (held V0)).val := by
  refine first_of_queries (res_main_while0b_v289 V0) _ ?_
  have e : (fun q => (res_main_while0b_v289 V0 : FVec Ideal S900 .f32) (ix1 q)) = held V0 (pick (held V0)) :=
    funext fun q => picked_column V0 h q
  rw [e]
  exact first_spec _

/-- One word spread to a vector of one. -/
theorem lone_at (w : IVec S_ 32) (n : ℕ) (hn : n < 2 ^ 31) (h : ∀ i, w i = BitVec.ofNat 32 n) :
    (broadcastInDim S1 ![] bcast_S_S1 w (ix1 0)).toInt = (n : ℤ) :=
  word_int n hn _ (h _)

/-- The table with the picked column cleared. -/
theorem cleared_column (h : ∀ t q, held V0 t q ≠ ⊥) (t : Fin 200) (q : Fin 900) :
    (res_main_while0b_v301 V0 : FVec Ideal S900x200 .f32) (ix2 q t) = if t = pick (held V0) then 0 else held V0 t q := by
  refine (set_column (V0 (Proc.devRef .tc main_v263_3)) _ _ (pick (held V0))
    (lone_at _ _ (small_target _) (wrap_at (res_main_while0b_v281 V0) 200#32 _ (small_target _) (pick_at V0 h))) q t).trans ?_
  refine if_congr Iff.rfl ?_ rfl
  pointwise

/-- What the trip stores, over plain arrays: the table with its picked column cleared, the two position words and the mask. -/
theorem trip_at (M : Grid) (C : FVec Ideal S900x200 .f32) (S : IVec S200x200 32) (wc wr : IVec S_ 32)
    (hC : ∀ t q, C (ix2 q t) = if t = pick M then 0 else M t q)
    (hS : ∀ t t' : Fin 200, S (ix2 t t') = if t.val / 25 = t'.val / 25 then 1#32 else 0#32)
    (hwc : wc ix0 = BitVec.ofNat 32 (pick M).val) (hwr : wr ix0 = BitVec.ofNat 32 (mate M).val) (t : Fin 200) (q : Fin 900) :
    Host.scatter scatter_S900x200_S2_S__n_01_01_0 (fun _ b => b)
      (Host.scatter scatter_S900x200_S1_S200_0_0_0_0 (fun _ b => b) C (broadcastInDim S1 ![] bcast_S_S1 (select (cmpi .slt wr (constantI S_ 32 0#32)) (addi wr (constantI S_ 32 900#32)) wr))
        (select
          (cmpi .ne
            (shapeCast S200
              (Host.dynamicSlice S1x200 S (fun k => ((![(select (cmpi .slt wc (constantI S_ 32 0#32)) (addi wc (constantI S_ 32 200#32)) wc), (select (cmpi .slt (constantI S_ 32 0#32) (constantI S_ 32 0#32)) (addi (constantI S_ 32 0#32) (constantI S_ 32 200#32)) (constantI S_ 32 0#32))] : Fin 2 → IVec S_ 32) k (Shape.Idx.first h_S_)).toInt)
                sliceFits_S200x200_S1x200) shapeCasts_S1x200_S200)
            (broadcastInDim S200 ![] bcast_S_S200 (constantI S_ 32 0#32)))
          (broadcastInDim S200 ![] bcast_S_S200 (id (constant S_ .f32 0x00000000#32)))
          (shapeCast S200
            (Host.dynamicSlice S1x200 C (fun k => ((![(select (cmpi .slt wr (constantI S_ 32 0#32)) (addi wr (constantI S_ 32 900#32)) wr), (select (cmpi .slt (constantI S_ 32 0#32) (constantI S_ 32 0#32)) (addi (constantI S_ 32 0#32) (constantI S_ 32 200#32)) (constantI S_ 32 0#32))] : Fin 2 → IVec S_ 32) k (Shape.Idx.first h_S_)).toInt)
              sliceFits_S900x200_S1x200) shapeCasts_S1x200_S200)))
      (concatenate S2 0 [⟨S1, broadcastInDim S1 ![] bcast_S_S1 (select (cmpi .slt wr (constantI S_ 32 0#32)) (addi wr (constantI S_ 32 900#32)) wr)⟩, ⟨S1, broadcastInDim S1 ![] bcast_S_S1 (select (cmpi .slt wc (constantI S_ 32 0#32)) (addi wc (constantI S_ 32 200#32)) wc)⟩]
        concatenates_S1_S1_S2_d0)
      (constant (F := Ideal) S_ .f32 0xB3D6BF95#32) (ix2 q t) = next M t q := by
  have hp := wrap_at wc 200#32 _ (small_target _) hwc
  have hm := wrap_at wr 900#32 _ (small_query _) hwr
  have hz := wrap_at (constantI S_ 32 0#32) 200#32 0 (by norm_num) rfl
  rw [set_entry _ _ _ _ (mate M) (pick M) (lone_at _ _ (small_query _) hm) (lone_at _ _ (small_target _) hp) q t,
    set_row _ _ _ (mate M) (lone_at _ _ (small_query _) hm) q t]
  unfold next
  refine if_congr Iff.rfl rfl ?_
  have e : ∀ (a : IVec S200 32) (b : FVec Ideal S200 .f32), select (cmpi .ne a (broadcastInDim S200 ![] bcast_S_S200 (constantI S_ 32 0#32)))
      (broadcastInDim S200 ![] bcast_S_S200 (id (constant S_ .f32 0x00000000#32))) b (ix1 t)
      = Scalar.select (IntOp.cmpi .ne (a (ix1 t)) 0#32) (0 : EReal) (b (ix1 t)) := fun a b => by
    simp only [id_eq]
    pointwise
  rw [e, row_at C _ _ (Shape.Idx.first h_S_) (mate M) (hm _) (hz _) t,
    mask_row_at S _ _ (Shape.Idx.first h_S_) (pick M) (hp _) (hz _) t, hC, hC, hS]
  have f : ∀ p : Prop, ∀ [Decidable p], IntOp.cmpi .ne (if p then 1#32 else 0#32) 0#32 = BitVec.ofBool (decide p) := fun p _ => by
    by_cases h : p
    · rw [if_pos h, decide_eq_true h]; rfl
    · rw [if_neg h, decide_eq_false h]; rfl
  rw [f, select_if]
  by_cases h1 : t = pick M
  · simp only [h1, if_true, true_or]
    split_ifs <;> rfl
  · by_cases h2 : q = mate M
    · subst h2
      simp only [h1, if_true, if_false, false_or, and_true, eq_comm]
    · simp only [h1, h2, if_false, false_or, and_false]

/-- One trip of the reference is one pick. -/
theorem step_at (h : ∀ t q, held V0 t q ≠ ⊥)
    (hS : ∀ t t' : Fin 200, (V0 (Proc.devRef .tc main_v263_0) : IVec S200x200 32) (ix2 t t') = if t.val / 25 = t'.val / 25 then 1#32 else 0#32)
    (t : Fin 200) (q : Fin 900) :
    (step_main_v263_3 V0 : FVec Ideal S900x200 .f32) (ix2 q t) = next (held V0) t q := by
  unfold step_main_v263_3
  rw [id_eq]
  exact trip_at (held V0) (res_main_while0b_v301 V0) (V0 (Proc.devRef .tc main_v263_0)) (res_main_while0b_v281 V0) (res_main_while0b_v295 V0)
    (cleared_column V0 h) hS (pick_at V0 h) (mate_at V0 h) t q

end Cert.ReferenceIdeal.Match

end
-- ==== Proof.Matching.lean ====
/- The kernel's result is the reference's: both start from the same table, make the same two hundred picks and ask the same question of each entry. -/
module

public import proofs.«01_k».proof.Proof.KernelStep
public import proofs.«01_k».proof.Proof.RefEntry
public import proofs.«01_k».proof.Proof.RefStep
public import proofs.«01_k».proof.Pre_labels_are_classes
public import Idealize.ShloMosaic.Lib.ReduceAll

@[expose] public section

set_option maxRecDepth 16384

noncomputable section

/-! ## The reference's picks -/

namespace Cert.ReferenceIdeal.Match

open Idealize.ShloMosaic Cert.ReferenceIdeal Cert.ReferenceIdeal.Gen Cert.Greedy Cert.ReferenceIdeal.Value

/-- The table after `n` trips of the reference is the table after `n` picks, and no entry of it is without a value. -/
theorem held_iterate (n : ℕ) : ∀ V : Valuation τ sig (Elt Ideal), (∀ t q, held V t q ≠ ⊥) →
    (∀ t t' : Fin 200, (V (Proc.devRef .tc main_v263_0) : IVec S200x200 32) (ix2 t t') = if t.val / 25 = t'.val / 25 then 1#32 else 0#32) →
    held (STEP^[n] V) = next^[n] (held V) := by
  induction n with
  | zero => intro V _ _; rfl
  | succ n ih =>
    intro V h hS
    have e : held (STEP V) = next (held V) := funext fun t => funext fun q => by
      unfold held
      rw [STEP_main_v263_3]
      exact step_at V h hS t q
    rw [Function.iterate_succ_apply, Function.iterate_succ_apply, ← e]
    refine ih (STEP V) (fun t q => ?_) fun t t' => ?_
    · rw [e]; exact next_ne_bot _ h t q
    · rw [STEP_main_v263_0]; exact hS t t'

/-- An entry of the reference's result. -/
theorem result_at (V : Valuation τ sig (Elt Ideal)) (q : Fin 900) (t : Fin 200) :
    (out_main_v265 V : IVec S900x200 1) (ix2 q t) = Ideal.cmp .olt (held V t q) 0 := by
  unfold out_main_v265
  pointwise
  rfl

end Cert.ReferenceIdeal.Match

/-! ## The kernel's picks -/

namespace Cert.KernelIdeal.Match

open Idealize.ShloMosaic Idealize.ShloMosaic.TcCoe Idealize.SL.Sem Cert.KernelIdeal Cert.KernelIdeal.Gen Cert.Greedy

/-- The kernel's buffer after `n` trips holds the table after `n` picks on the targets' rows. -/
theorem stepK_iterate (n : ℕ) : ∀ (B : Vec Ideal S256x900 .f32) (M : Grid), (∀ t q, B (ix2 (padRow t) q) = M t q) →
    (∀ t q, M t q ≠ ⊥) → ∀ t q, (stepK^[n] B) (ix2 (padRow t) q) = (next^[n] M) t q := by
  induction n with
  | zero => intro B M hB _ t q; exact hB t q
  | succ n ih =>
    intro B M hB hM t q
    rw [Function.iterate_succ_apply, Function.iterate_succ_apply]
    exact ih (stepK B) (next M) (fun t q => stepK_at B M hB hM t q) (fun t q => next_ne_bot M hM t q) t q

/-- The kernel's result byte of an entry, asked whether it is nonzero. -/
theorem byte_at (B : Vec Ideal S256x900 .f32) (r : Fin 256) (q : Fin 900) :
    IntOp.cmpi .ne (k0_pay2 B (ix2 r q)) 0#8 = Ideal.cmp .olt (B (ix2 r q)) 0 := by
  have e : k0_pay2 B (ix2 r q) = BitVec.setWidth 8 (Ideal.cmp .olt (B (ix2 r q)) 0) := by
    pointwise [k0_pay2]
  rw [e]
  generalize Ideal.cmp .olt (B (ix2 r q)) 0 = b
  revert b
  decide

/-- An entry of the kernel's result, from a table its starting buffer holds. -/
theorem kernel_at (m : (ℓ : Loc nD τ sig) → Buf (Elt Ideal) ℓ) (c : Dev nD) (M : Grid) (hM : ∀ t q, M t q ≠ ⊥)
    (hB : ∀ t q, start (regLogits m c) (regBoxes m c) (regTargets m c) (regLabels m c) (ix2 (padRow t) q) = M t q)
    (q : Fin 900) (t : Fin 200) : hostOut (regOut m c) (ix2 q t) = Ideal.cmp .olt ((next^[200] M) t q) 0 := by
  rw [hostOut_apply]
  unfold regOut
  rw [byte_at, stepK_iterate 200 _ M hB hM]

/-- The labels the precondition allows are class numbers. -/
theorem labels_of_pre (h : Cert.Pre_labels_are_classes.Facts) (a0 : FVec Ideal S8x900x92 .f32) (a1 : FVec Ideal S8x900x4 .f32) (a2 : IVec S200 32)
    (a3 : FVec Ideal S200x4 .f32) (hp : Cert.Pre_labels_are_classes.fn (F := Ideal) a0 a1 a2 a3 = fun _ => 1#1) :
    ∃ l : Fin 200 → Fin 92, ∀ t, a2 (ix1 t) = BitVec.ofNat 32 (l t).val := by
  have key : ∀ t : Fin 200, ∃ l : Fin 92, a2 (ix1 t) = BitVec.ofNat 32 l.val := fun t => by
    have : Subsingleton Cert.Pre_labels_are_classes.S_.Idx := ⟨fun a b => funext fun k => k.elim0⟩
    have e := Host.reduce_andi_all _ _ _ _ ix0 (congrFun hp ix0) (ix1 t)
    have e' : IntOp.andi (IntOp.cmpi .sge (a2 (ix1 t)) 0#32) (IntOp.cmpi .slt (a2 (ix1 t)) 92#32) = 1#1 := e
    obtain ⟨e1, e2⟩ := IntOp.andi_eq_one.1 e'
    have h1 := IntOp.cmpi_sge.1 e1
    have h2 := IntOp.cmpi_slt.1 e2
    generalize a2 (ix1 t) = a at h1 h2
    have hlt : a.toNat < 92 := by
      have z : (0#32).toInt = 0 := by decide
      have n : (92#32).toInt = 92 := by decide
      have w := a.isLt
      rw [z] at h1
      rw [n] at h2
      rw [BitVec.toInt_eq_toNat_cond] at h1 h2
      split_ifs at h1 h2 <;> omega
    exact ⟨⟨a.toNat, hlt⟩, by simp⟩
  exact ⟨fun t => (key t).choose, fun t => (key t).choose_spec⟩

/-- THE TWO RESULTS ARE EQUAL, from memories that hold the same arguments, the labels being class numbers. -/
theorem results_eq (h : Cert.Pre_labels_are_classes.Facts) (m : (ℓ : Loc nD τ sig) → Buf (Elt Ideal) ℓ) (c : Dev nD)
    (V : Valuation Cert.ReferenceIdeal.τ Cert.ReferenceIdeal.sig (Elt Ideal))
    (h0 : V (Proc.devRef .tc Cert.ReferenceIdeal.main_arg0) = m ((c.tc : Thread nD τ).loc main_arg0))
    (h1 : V (Proc.devRef .tc Cert.ReferenceIdeal.main_arg1) = m ((c.tc : Thread nD τ).loc main_arg1))
    (h2 : V (Proc.devRef .tc Cert.ReferenceIdeal.main_arg2) = m ((c.tc : Thread nD τ).loc main_arg2))
    (h3 : V (Proc.devRef .tc Cert.ReferenceIdeal.main_arg3) = m ((c.tc : Thread nD τ).loc main_arg3))
    (hp : Cert.Pre_labels_are_classes.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.ReferenceIdeal.Value.out_main_v265 (Cert.ReferenceIdeal.Value.STEP^[200] (Cert.ReferenceIdeal.Match.started V))
      = (hostOut (regOut m c) : IVec S900x200 1) := by
  obtain ⟨l, hl⟩ := labels_of_pre h _ _ _ _ hp
  let M : Grid := fun t q => pairing (m ((c.tc : Thread nD τ).loc main_arg0)) (m ((c.tc : Thread nD τ).loc main_arg1))
    (m ((c.tc : Thread nD τ).loc main_arg3)) l (imageOf t) q t
  have hM : ∀ t q, M t q ≠ ⊥ := fun t q => Cert.Entry.entry_ne_bot _ _ _ _
  have hR : Cert.ReferenceIdeal.Match.held (Cert.ReferenceIdeal.Match.started V) = M := funext fun t => funext fun q => by
    refine (Cert.ReferenceIdeal.Match.start_at V q t (l t) ?_).trans ?_
    · rw [h2]; exact hl t
    · rw [h0, h1, h3]; rfl
  have hK := kernel_at m c M hM fun t q => start_apply m c l hl q t
  funext i
  rw [show i = ix2 (i 0) (i 1) from eq_ix2 i]
  refine (Cert.ReferenceIdeal.Match.result_at _ _ _).trans (Eq.trans ?_ (hK (i 0) (i 1)).symm)
  rw [Cert.ReferenceIdeal.Match.held_iterate 200 _ (by rw [hR]; exact hM)
    (fun t t' => Cert.ReferenceIdeal.Match.same_image _ t t'), hR]

end Cert.KernelIdeal.Match

end
-- ==== Proof.lean ====
/- The five claims about the matching kernel, put together from the modules under Proof/: the three frames come with the generated
   runs, the kept constants are the table's, and the equality of results is Proof/Matching.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labels_are_classes
public import proofs.«01_k».proof.Proof.KernelHost
public import proofs.«01_k».proof.Proof.KernelEntry
public import proofs.«01_k».proof.Proof.Matching
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The printed kernel leaves its arguments as they were and its counters at zero. -/
theorem kernel_frame : Cert.quiescent_Kernel := fun m ρ _ => Cert.Kernel.Gen.frame m ρ

/-- So does the kernel over the extended reals. -/
theorem ideal_frame : Cert.quiescent_KernelIdeal := fun m ρ _ => Cert.KernelIdeal.Gen.frame m ρ

/-- So it does when the labels are class numbers. -/
theorem ideal_frame_labels : Cert.quiescent_KernelIdeal_pre_labels_are_classes := fun m ρ _ => Cert.KernelIdeal.Gen.frame m ρ

/-- The reference leaves its arguments as they were, and it has no counters. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does when the labels are class numbers. -/
theorem reference_frame_labels : Cert.quiescent_ReferenceIdeal_pre_labels_are_classes := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three constants that stand for a real number, or for minus infinity, are the table's. -/
theorem constants_kept : Cert.preserves_Kernel_KernelIdeal :=
  ⟨IdealRules.named_const.statement Cert.KernelIdeal.κ "cdf_scale" .f32 0x40624630#32 _ rfl,
    IdealRules.named_const.statement Cert.KernelIdeal.κ "icdf_scale" .f32 0x3ED93924#32 _ rfl,
    IdealRules.named_const.statement Cert.KernelIdeal.κ "neg_inf" .f32 0xFF61B1E6#32 _ rfl⟩

/-- The kernel's result and the reference's are the same matrix of matches. -/
theorem same_matches : Cert.algebraic_KernelIdeal_ReferenceIdeal_pre_labels_are_classes := by
  intro m ρ m' ρ' hpre hagree
  refine ⟨_, Cert.KernelIdeal.Match.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  simp only [StableHlo.entryContents, Cert.ReferenceIdeal.Value.preI, StableHlo.afterL_cons,
    StableHlo.afterL_nil]
  exact Cert.KernelIdeal.Match.results_eq Cert.Pre_labels_are_classes.Gen.facts m c _ h0 h1 h2 h3 (hpre c)

/-- All the claims of this certificate. -/
theorem claim : Cert.Claim := ⟨Cert.Kernel.Gen.facts, Cert.KernelIdeal.Gen.facts, Cert.ReferenceIdeal.Gen.facts, Cert.Pre_labels_are_classes.Gen.facts,
  kernel_frame, ideal_frame, ideal_frame_labels, reference_frame, reference_frame_labels, constants_kept, same_matches⟩

end Cert.Proof

end
